-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_assumed [hPre_assumed : Cert.Pre_assumed.Facts] (m : (ℓ : Loc Cert.KernelIdeal.nD Cert.KernelIdeal.τ Cert.KernelIdeal.sig) → Buf (Elt Ideal) ℓ) : Prop :=
  ∀ c : Dev Cert.KernelIdeal.nD,
    (Cert.Pre_assumed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_assumed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_assumed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_assumed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_assumed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_assumed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_assumed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_assumed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_assumed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_assumed [hPre_assumed : Cert.Pre_assumed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_assumed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_assumed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_assumed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_assumed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_assumed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_assumed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_assumed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_assumed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_assumed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_assumed [hKernelIdeal : Cert.KernelIdeal.Facts] [hPre_assumed : Cert.Pre_assumed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_assumed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_assumed [hReferenceIdeal : Cert.ReferenceIdeal.Facts] [hPre_assumed : Cert.Pre_assumed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_assumed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_assumed [hKernelIdeal : Cert.KernelIdeal.Facts] [hReferenceIdeal : Cert.ReferenceIdeal.Facts] [hPre_assumed : Cert.Pre_assumed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_assumed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_assumed : Cert.Pre_assumed.Facts),
    quiescent_Kernel (hKernel := hKernel)
    ∧ quiescent_KernelIdeal (hKernelIdeal := hKernelIdeal)
    ∧ quiescent_KernelIdeal_pre_assumed (hKernelIdeal := hKernelIdeal) (hPre_assumed := hPre_assumed)
    ∧ quiescent_ReferenceIdeal (hReferenceIdeal := hReferenceIdeal)
    ∧ quiescent_ReferenceIdeal_pre_assumed (hReferenceIdeal := hReferenceIdeal) (hPre_assumed := hPre_assumed)
    ∧ preserves_Kernel_KernelIdeal
    ∧ algebraic_KernelIdeal_ReferenceIdeal_pre_assumed (hKernelIdeal := hKernelIdeal) (hReferenceIdeal := hReferenceIdeal) (hPre_assumed := hPre_assumed)
-- ==== Pre_assumed.lean ====
abbrev S4x2048x16x256 : Shape := ⟨4, ![4, 2048, 16, 256]⟩
abbrev S4 : Shape := ⟨1, ![4]⟩
abbrev S64x256 : Shape := ⟨2, ![64, 256]⟩
abbrev S4x256 : Shape := ⟨2, ![4, 256]⟩
abbrev S4x1 : Shape := ⟨2, ![4, 1]⟩
abbrev S192x64 : Shape := ⟨2, ![192, 64]⟩
abbrev S192 : Shape := ⟨1, ![192]⟩
abbrev S16 : Shape := ⟨1, ![16]⟩
abbrev S64x2048x256 : Shape := ⟨3, ![64, 2048, 256]⟩
abbrev S256x64 : Shape := ⟨2, ![256, 64]⟩
abbrev S64x2048x64 : Shape := ⟨3, ![64, 2048, 64]⟩
abbrev S64x2048x4x16 : Shape := ⟨4, ![64, 2048, 4, 16]⟩
abbrev S_ : Shape := ⟨0, ![]⟩
abbrev S64x2048x4 : Shape := ⟨3, ![64, 2048, 4]⟩
abbrev S64x2048x4x1 : Shape := ⟨4, ![64, 2048, 4, 1]⟩

class Facts : Prop where
  shapeCasts_S4x2048x16x256_S64x2048x256 : S4x2048x16x256.ShapeCasts S64x2048x256
  transposes_S64x256_S256x64_1_0 : S64x256.Transposes [1, 0] S256x64
  shapeCasts_S64x2048x64_S64x2048x4x16 : S64x2048x64.ShapeCasts S64x2048x4x16
  reducesTo_S64x2048x4x16_S64x2048x4_d3 : S64x2048x4x16.ReducesTo [3] S64x2048x4
  h_S_ : 0 < S_.numel
  bcast_S64x2048x4_S64x2048x4x1_0_1_2 : S64x2048x4.BroadcastsInDim S64x2048x4x1 (![0, 1, 2] : Fin 3 → Fin S64x2048x4x1.rank)
  bcast_S_S64x2048x4x1 : S_.BroadcastsInDim S64x2048x4x1 (![] : Fin 0 → Fin S64x2048x4x1.rank)
  bcast_S64x2048x4x1_S64x2048x4x16_0_1_2_3 : S64x2048x4x1.BroadcastsInDim S64x2048x4x16 (![0, 1, 2, 3] : Fin 4 → Fin S64x2048x4x16.rank)
  bcast_S_S64x2048x64 : S_.BroadcastsInDim S64x2048x64 (![] : Fin 0 → Fin S64x2048x64.rank)
  bcast_S_S4 : S_.BroadcastsInDim S4 (![] : Fin 0 → Fin S4.rank)
  bcast_S_S192 : S_.BroadcastsInDim S192 (![] : Fin 0 → Fin S192.rank)
  bcast_S_S16 : S_.BroadcastsInDim S16 (![] : Fin 0 → Fin S16.rank)
  bcast_S_S64x2048x4 : S_.BroadcastsInDim S64x2048x4 (![] : Fin 0 → Fin S64x2048x4.rank)
  dot_S64x2048x256_S256x64_S64x2048x64_2_0_01_1_n_n_wf : DotDims.WF S64x2048x256 S256x64 S64x2048x64 [2] [0] [0, 1] [1] [] []

variable [Facts]

def dot_S64x2048x256_S256x64_S64x2048x64_2_0_01_1_n_n : DotDims S64x2048x256 S256x64 S64x2048x64 where
  lhsContracting := [2]
  rhsContracting := [0]
  lhsNonContracting := [0, 1]
  rhsNonContracting := [1]
  lhsBatch := []
  rhsBatch := []
  wf := dot_S64x2048x256_S256x64_S64x2048x64_2_0_01_1_n_n_wf
def fn_part2 {F : FTy → Type} [FloatOps F] (main_v12 : FVec F S64x2048x4 .f32) (main_v17 : IVec S64x2048x64 1) (main_v19 : IVec S4 1) (main_v21 : IVec S4 1) (main_v23 : IVec S192 1) (main_v25 : IVec S16 1) (main_v27 : IVec S16 1) (main_v29 : IVec S16 1) (main_v31 : IVec S16 1) (main_v33 : IVec S64x2048x4 1) (main_v34 : FVec F S64x2048x4 .f32) : IVec S64x2048x64 1 × IVec S4 1 × IVec S4 1 × IVec S192 1 × IVec S16 1 × IVec S16 1 × IVec S16 1 × IVec S16 1 × IVec S64x2048x4 1 :=
  let main_v35 : IVec S64x2048x4 1 := cmpf .oge main_v12 main_v34
  let main_v36 : IVec S64x2048x4 1 := ori main_v33 main_v35
  (main_v17, main_v19, main_v21, main_v23, main_v25, main_v27, main_v29, main_v31, main_v36)

def fn_part1 {F : FTy → Type} [FloatOps F] (main_arg7 : FVec F S4 .f32) (main_arg9 : FVec F S4 .f32) (main_arg13 : FVec F S192 .f32) (main_arg14 : FVec F S16 .f32) (main_arg15 : FVec F S16 .f32) (main_arg16 : FVec F S16 .f32) (main_arg17 : FVec F S16 .f32) (main_v12 : FVec F S64x2048x4 .f32) (main_v17 : IVec S64x2048x64 1) (main_v18 : FVec F S4 .f32) : IVec S64x2048x64 1 × IVec S4 1 × IVec S4 1 × IVec S192 1 × IVec S16 1 × IVec S16 1 × IVec S16 1 × IVec S16 1 × IVec S64x2048x4 1 :=
  let main_v19 : IVec S4 1 := cmpf .oeq main_arg7 main_v18
  let main_cst_4 : FVec F S_ .f32 := constant S_ .f32 0xBF800000#32
  let main_v20 : FVec F S4 .f32 := broadcastInDim S4 ![] bcast_S_S4 main_cst_4
  let main_v21 : IVec S4 1 := cmpf .oeq main_arg9 main_v20
  let main_cst_5 : FVec F S_ .f32 := constant S_ .f32 0x00000000#32
  let main_v22 : FVec F S192 .f32 := broadcastInDim S192 ![] bcast_S_S192 main_cst_5
  let main_v23 : IVec S192 1 := cmpf .oeq main_arg13 main_v22
  let main_cst_6 : FVec F S_ .f32 := constant S_ .f32 0x3F800000#32
  let main_v24 : FVec F S16 .f32 := broadcastInDim S16 ![] bcast_S_S16 main_cst_6
  let main_v25 : IVec S16 1 := cmpf .oeq main_arg14 main_v24
  let main_cst_7 : FVec F S_ .f32 := constant S_ .f32 0x00000000#32
  let main_v26 : FVec F S16 .f32 := broadcastInDim S16 ![] bcast_S_S16 main_cst_7
  let main_v27 : IVec S16 1 := cmpf .oeq main_arg15 main_v26
  let main_cst_8 : FVec F S_ .f32 := constant S_ .f32 0x3F800000#32
  let main_v28 : FVec F S16 .f32 := broadcastInDim S16 ![] bcast_S_S16 main_cst_8
  let main_v29 : IVec S16 1 := cmpf .oeq main_arg16 main_v28
  let main_cst_9 : FVec F S_ .f32 := constant S_ .f32 0x00000000#32
  let main_v30 : FVec F S16 .f32 := broadcastInDim S16 ![] bcast_S_S16 main_cst_9
  let main_v31 : IVec S16 1 := cmpf .oeq main_arg17 main_v30
  let main_cst_10 : FVec F S_ .f32 := constant S_ .f32 0x00000000#32
  let main_v32 : FVec F S64x2048x4 .f32 := broadcastInDim S64x2048x4 ![] bcast_S_S64x2048x4 main_cst_10
  let main_v33 : IVec S64x2048x4 1 := cmpf .oeq main_v12 main_v32
  let main_cst_11 : FVec F S_ .f32 := constant S_ .f32 0x2B8CBCCC#32
  let main_v34 : FVec F S64x2048x4 .f32 := broadcastInDim S64x2048x4 ![] bcast_S_S64x2048x4 main_cst_11
  fn_part2 (F := F) main_v12 main_v17 main_v19 main_v21 main_v23 main_v25 main_v27 main_v29 main_v31 main_v33 main_v34

def fn {F : FTy → Type} [FloatOps F] (main_arg0 : FVec F S4x2048x16x256 .f32) (main_arg1 : FVec F S4 .f32) (main_arg2 : FVec F S4 .f32) (main_arg3 : FVec F S64x256 .f32) (main_arg4 : FVec F S64x256 .f32) (main_arg5 : FVec F S64x256 .f32) (main_arg6 : FVec F S4x256 .f32) (main_arg7 : FVec F S4 .f32) (main_arg8 : FVec F S4x256 .f32) (main_arg9 : FVec F S4 .f32) (main_arg10 : FVec F S4x1 .f32) (main_arg11 : FVec F S4x1 .f32) (main_arg12 : FVec F S192x64 .f32) (main_arg13 : FVec F S192 .f32) (main_arg14 : FVec F S16 .f32) (main_arg15 : FVec F S16 .f32) (main_arg16 : FVec F S16 .f32) (main_arg17 : FVec F S16 .f32) : IVec S64x2048x64 1 × IVec S4 1 × IVec S4 1 × IVec S192 1 × IVec S16 1 × IVec S16 1 × IVec S16 1 × IVec S16 1 × IVec S64x2048x4 1 :=
  let main_v0 : FVec F S64x2048x256 .f32 := shapeCast S64x2048x256 main_arg0 shapeCasts_S4x2048x16x256_S64x2048x256
  let main_v1 : FVec F S256x64 .f32 := (transpose S256x64 [1, 0] · transposes_S64x256_S256x64_1_0) main_arg4
  let main_v2 : FVec F S64x2048x64 .f32 := (fun l r => Host.dotGeneral dot_S64x2048x256_S256x64_S64x2048x64_2_0_01_1_n_n none l r) main_v0 main_v1
  let main_v3 : FVec F S64x2048x4x16 .f32 := shapeCast S64x2048x4x16 main_v2 shapeCasts_S64x2048x64_S64x2048x4x16
  let main_cst : FVec F S_ .f32 := constant S_ .f32 0x00000000#32
  let main_v4 : FVec F S64x2048x4 .f32 := (fun x v => Host.reduceAdd x v reducesTo_S64x2048x4x16_S64x2048x4_d3 h_S_) main_v3 main_cst
  let main_v5 : FVec F S64x2048x4x1 .f32 := broadcastInDim S64x2048x4x1 ![0, 1, 2] bcast_S64x2048x4_S64x2048x4x1_0_1_2 main_v4
  let main_cst_0 : FVec F S_ .f32 := constant S_ .f32 0x41800000#32
  let main_v6 : FVec F S64x2048x4x1 .f32 := broadcastInDim S64x2048x4x1 ![] bcast_S_S64x2048x4x1 main_cst_0
  let main_v7 : FVec F S64x2048x4x1 .f32 := Host.divf main_v5 main_v6
  let main_v8 : FVec F S64x2048x4x16 .f32 := broadcastInDim S64x2048x4x16 ![0, 1, 2, 3] bcast_S64x2048x4x1_S64x2048x4x16_0_1_2_3 main_v7
  let main_v9 : FVec F S64x2048x4x16 .f32 := subf main_v3 main_v8
  let main_v10 : FVec F S64x2048x4x16 .f32 := mulf main_v9 main_v9
  let main_cst_1 : FVec F S_ .f32 := constant S_ .f32 0x00000000#32
  let main_v11 : FVec F S64x2048x4 .f32 := (fun x v => Host.reduceAdd x v reducesTo_S64x2048x4x16_S64x2048x4_d3 h_S_) main_v10 main_cst_1
  let main_v12 : FVec F S64x2048x4 .f32 := Host.sqrt main_v11
  let main_v13 : FVec F S256x64 .f32 := (transpose S256x64 [1, 0] · transposes_S64x256_S256x64_1_0) main_arg5
  let main_v14 : FVec F S64x2048x64 .f32 := (fun l r => Host.dotGeneral dot_S64x2048x256_S256x64_S64x2048x64_2_0_01_1_n_n none l r) main_v0 main_v13
  let main_v15 : FVec F S64x2048x64 .f32 := Host.absf main_v14
  let main_cst_2 : FVec F S_ .f32 := constant S_ .f32 0x7F800000#32
  let main_v16 : FVec F S64x2048x64 .f32 := broadcastInDim S64x2048x64 ![] bcast_S_S64x2048x64 main_cst_2
  let main_v17 : IVec S64x2048x64 1 := cmpf .olt main_v15 main_v16
  let main_cst_3 : FVec F S_ .f32 := constant S_ .f32 0x3F000000#32
  let main_v18 : FVec F S4 .f32 := broadcastInDim S4 ![] bcast_S_S4 main_cst_3
  fn_part1 (F := F) main_arg7 main_arg9 main_arg13 main_arg14 main_arg15 main_arg16 main_arg17 main_v12 main_v17 main_v18
-- ==== Kernel.lean ====
abbrev S4x2048x16x256 : Shape := ⟨4, ![4, 2048, 16, 256]⟩
abbrev S4 : Shape := ⟨1, ![4]⟩
abbrev S64x256 : Shape := ⟨2, ![64, 256]⟩
abbrev S4x256 : Shape := ⟨2, ![4, 256]⟩
abbrev S4x1 : Shape := ⟨2, ![4, 1]⟩
abbrev S192x64 : Shape := ⟨2, ![192, 64]⟩
abbrev S192 : Shape := ⟨1, ![192]⟩
abbrev S16 : Shape := ⟨1, ![16]⟩
abbrev S64x2048x256 : Shape := ⟨3, ![64, 2048, 256]⟩
abbrev S200x256 : Shape := ⟨2, ![200, 256]⟩
abbrev S_ : Shape := ⟨0, ![]⟩
abbrev S4x16 : Shape := ⟨2, ![4, 16]⟩
abbrev S64 : Shape := ⟨1, ![64]⟩
abbrev S64x1 : Shape := ⟨2, ![64, 1]⟩
abbrev S1x4 : Shape := ⟨2, ![1, 4]⟩
abbrev S64x4 : Shape := ⟨2, ![64, 4]⟩
abbrev S4x64 : Shape := ⟨2, ![4, 64]⟩
abbrev S8x64 : Shape := ⟨2, ![8, 64]⟩
abbrev S8x64x1 : Shape := ⟨3, ![8, 64, 1]⟩
abbrev S8x64x128 : Shape := ⟨3, ![8, 64, 128]⟩
abbrev S8x4x2048 : Shape := ⟨3, ![8, 4, 2048]⟩
abbrev S4x8x2048 : Shape := ⟨3, ![4, 8, 2048]⟩
abbrev S64x192x2048 : Shape := ⟨3, ![64, 192, 2048]⟩
abbrev S16x128x256 : Shape := ⟨3, ![16, 128, 256]⟩
abbrev S1x8x2048 : Shape := ⟨3, ![1, 8, 2048]⟩
abbrev S16x192x128 : Shape := ⟨3, ![16, 192, 128]⟩
abbrev S64x16x16 : Shape := ⟨3, ![64, 16, 16]⟩
abbrev S64x2048 : Shape := ⟨2, ![64, 2048]⟩
abbrev S64x16x128 : Shape := ⟨3, ![64, 16, 128]⟩
abbrev S2048x256 : Shape := ⟨2, ![2048, 256]⟩
abbrev S200x2048 : Shape := ⟨2, ![200, 2048]⟩
abbrev S8x2048 : Shape := ⟨2, ![8, 2048]⟩
abbrev S64x64 : Shape := ⟨2, ![64, 64]⟩
abbrev S8x1 : Shape := ⟨2, ![8, 1]⟩
abbrev S128x8 : Shape := ⟨2, ![128, 8]⟩
abbrev S128x2048 : Shape := ⟨2, ![128, 2048]⟩
abbrev S64x128 : Shape := ⟨2, ![64, 128]⟩
abbrev S4x16x128 : Shape := ⟨3, ![4, 16, 128]⟩
abbrev S64x16x256 : Shape := ⟨3, ![64, 16, 256]⟩
abbrev S64x128x256 : Shape := ⟨3, ![64, 128, 256]⟩
abbrev S64x128x128 : Shape := ⟨3, ![64, 128, 128]⟩
abbrev S128x128 : Shape := ⟨2, ![128, 128]⟩
abbrev S1x128x128 : Shape := ⟨3, ![1, 128, 128]⟩
abbrev S64x32x32 : Shape := ⟨3, ![64, 32, 32]⟩
abbrev S256x32x32 : Shape := ⟨3, ![256, 32, 32]⟩
abbrev S32x32 : Shape := ⟨2, ![32, 32]⟩
abbrev S1x32x32 : Shape := ⟨3, ![1, 32, 32]⟩
abbrev S64x16x32 : Shape := ⟨3, ![64, 16, 32]⟩
abbrev S64x16x64 : Shape := ⟨3, ![64, 16, 64]⟩
abbrev S64x64x32 : Shape := ⟨3, ![64, 64, 32]⟩
abbrev S64x16x96 : Shape := ⟨3, ![64, 16, 96]⟩
abbrev S64x96x32 : Shape := ⟨3, ![64, 96, 32]⟩
abbrev S192x2048 : Shape := ⟨2, ![192, 2048]⟩
abbrev S192x128 : Shape := ⟨2, ![192, 128]⟩
abbrev S1x192x128 : Shape := ⟨3, ![1, 192, 128]⟩
abbrev S4x16x192x2048 : Shape := ⟨4, ![4, 16, 192, 2048]⟩
abbrev S4x2048x16x192 : Shape := ⟨4, ![4, 2048, 16, 192]⟩

abbrev nBuf : Space → Nat
  | .hbm => 59
  | .vmem => 11
  | .smem => 0
  | _ => 0

abbrev bufTy : (tb : Table) → Fin (tcTables nBuf tb) → BufTy
  | .hbm, ⟨0, _⟩ => ⟨S4x2048x16x256, .f32⟩
  | .hbm, ⟨1, _⟩ => ⟨S4, .f32⟩
  | .hbm, ⟨2, _⟩ => ⟨S4, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S4x256, .f32⟩
  | .hbm, ⟨7, _⟩ => ⟨S4, .f32⟩
  | .hbm, ⟨8, _⟩ => ⟨S4x256, .f32⟩
  | .hbm, ⟨9, _⟩ => ⟨S4, .f32⟩
  | .hbm, ⟨10, _⟩ => ⟨S4x1, .f32⟩
  | .hbm, ⟨11, _⟩ => ⟨S4x1, .f32⟩
  | .hbm, ⟨12, _⟩ => ⟨S192x64, .f32⟩
  | .hbm, ⟨13, _⟩ => ⟨S192, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S64x2048x256, .f32⟩
  | .hbm, ⟨19, _⟩ => ⟨S200x256, .f32⟩
  | .hbm, ⟨20, _⟩ => ⟨S4, .f32⟩
  | .hbm, ⟨21, _⟩ => ⟨S_, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4x16, .f32⟩
  | .hbm, ⟨34, _⟩ => ⟨S64, .f32⟩
  | .hbm, ⟨35, _⟩ => ⟨S64x1, .f32⟩
  | .hbm, ⟨36, _⟩ => ⟨S4, .f32⟩
  | .hbm, ⟨37, _⟩ => ⟨S1x4, .f32⟩
  | .hbm, ⟨38, _⟩ => ⟨S64x4, .f32⟩
  | .hbm, ⟨39, _⟩ => ⟨S64x4, .f32⟩
  | .hbm, ⟨40, _⟩ => ⟨S64x4, .f32⟩
  | .hbm, ⟨41, _⟩ => ⟨S4x16, .f32⟩
  | .hbm, ⟨42, _⟩ => ⟨S64, .f32⟩
  | .hbm, ⟨43, _⟩ => ⟨S64x1, .f32⟩
  | .hbm, ⟨44, _⟩ => ⟨S4, .f32⟩
  | .hbm, ⟨45, _⟩ => ⟨S1x4, .f32⟩
  | .hbm, ⟨46, _⟩ => ⟨S64x4, .f32⟩
  | .hbm, ⟨47, _⟩ => ⟨S64x4, .f32⟩
  | .hbm, ⟨48, _⟩ => ⟨S64x4, .f32⟩
  | .hbm, ⟨49, _⟩ => ⟨S4x64, .f32⟩
  | .hbm, ⟨50, _⟩ => ⟨S4x64, .f32⟩
  | .hbm, ⟨51, _⟩ => ⟨S8x64, .f32⟩
  | .hbm, ⟨52, _⟩ => ⟨S8x64x1, .f32⟩
  | .hbm, ⟨53, _⟩ => ⟨S8x64x128, .f32⟩
  | .hbm, ⟨54, _⟩ => ⟨S8x4x2048, .f32⟩
  | .hbm, ⟨55, _⟩ => ⟨S4x8x2048, .f32⟩
  | .hbm, ⟨56, _⟩ => ⟨S64x192x2048, .f32⟩
  | .hbm, ⟨57, _⟩ => ⟨S4x16x192x2048, .f32⟩
  | .hbm, ⟨58, _⟩ => ⟨S4x2048x16x192, .f32⟩
  | .local _ .vmem, ⟨0, _⟩ => ⟨S16x128x256, .f32⟩
  | .local _ .vmem, ⟨1, _⟩ => ⟨S16x128x256, .f32⟩
  | .local _ .vmem, ⟨2, _⟩ => ⟨S200x256, .f32⟩
  | .local _ .vmem, ⟨3, _⟩ => ⟨S1x8x2048, .f32⟩
  | .local _ .vmem, ⟨4, _⟩ => ⟨S1x8x2048, .f32⟩
  | .local _ .vmem, ⟨5, _⟩ => ⟨S192x64, .f32⟩
  | .local _ .vmem, ⟨6, _⟩ => ⟨S16x192x128, .f32⟩
  | .local _ .vmem, ⟨7, _⟩ => ⟨S16x192x128, .f32⟩
  | .local _ .vmem, ⟨8, _⟩ => ⟨S64x16x16, .f32⟩
  | .local _ .vmem, ⟨9, _⟩ => ⟨S64x2048, .f32⟩
  | .local _ .vmem, ⟨10, _⟩ => ⟨S64x16x128, .f32⟩
  | _, _ => ⟨S4x2048x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v3 : Ref sig .tc := ⟨.hbm, 24, rfl⟩
abbrev main_cst_0 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S200x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x16x256 : Shape := ⟨4, ![4, 2048, 16, 256]⟩
abbrev S4 : Shape := ⟨1, ![4]⟩
abbrev S64x256 : Shape := ⟨2, ![64, 256]⟩
abbrev S4x256 : Shape := ⟨2, ![4, 256]⟩
abbrev S4x1 : Shape := ⟨2, ![4, 1]⟩
abbrev S192x64 : Shape := ⟨2, ![192, 64]⟩
abbrev S192 : Shape := ⟨1, ![192]⟩
abbrev S16 : Shape := ⟨1, ![16]⟩
abbrev S64x2048x256 : Shape := ⟨3, ![64, 2048, 256]⟩
abbrev S256x64 : Shape := ⟨2, ![256, 64]⟩
abbrev S64x2048x64 : Shape := ⟨3, ![64, 2048, 64]⟩
abbrev S64x2048x4x16 : Shape := ⟨4, ![64, 2048, 4, 16]⟩
abbrev S_ : Shape := ⟨0, ![]⟩
abbrev S64x2048x4 : Shape := ⟨3, ![64, 2048, 4]⟩
abbrev S64x2048x4x1 : Shape := ⟨4, ![64, 2048, 4, 1]⟩
abbrev S1x1x1x16 : Shape := ⟨4, ![1, 1, 1, 16]⟩
abbrev S256x4 : Shape := ⟨2, ![256, 4]⟩
abbrev S1x1x4 : Shape := ⟨3, ![1, 1, 4]⟩
abbrev S4x16 : Shape := ⟨2, ![4, 16]⟩
abbrev S64 : Shape := ⟨1, ![64]⟩
abbrev S64x1x1 : Shape := ⟨3, ![64, 1, 1]⟩
abbrev S64x1x4 : Shape := ⟨3, ![64, 1, 4]⟩
abbrev S64x4x16x16 : Shape := ⟨4, ![64, 4, 16, 16]⟩
abbrev S2048x64x4x16 : Shape := ⟨4, ![2048, 64, 4, 16]⟩
abbrev S2048x64x4 : Shape := ⟨3, ![2048, 64, 4]⟩
abbrev S1x64x4x16 : Shape := ⟨4, ![1, 64, 4, 16]⟩
abbrev S64x4x16 : Shape := ⟨3, ![64, 4, 16]⟩
abbrev S1x64x4 : Shape := ⟨3, ![1, 64, 4]⟩
abbrev S64x4 : Shape := ⟨2, ![64, 4]⟩
abbrev S64x4x16x1 : Shape := ⟨4, ![64, 4, 16, 1]⟩
abbrev S64x4x1x16 : Shape := ⟨4, ![64, 4, 1, 16]⟩
abbrev S64x4x1x1 : Shape := ⟨4, ![64, 4, 1, 1]⟩
abbrev S64x192 : Shape := ⟨2, ![64, 192]⟩
abbrev S64x2048x192 : Shape := ⟨3, ![64, 2048, 192]⟩
abbrev S1x1x192 : Shape := ⟨3, ![1, 1, 192]⟩
abbrev S4x16x2048x192 : Shape := ⟨4, ![4, 16, 2048, 192]⟩
abbrev S4x2048x16x192 : Shape := ⟨4, ![4, 2048, 16, 192]⟩

abbrev nBuf : Space → Nat
  | .hbm => 251
  | .vmem => 0
  | .smem => 0
  | _ => 0

abbrev hbmTy0_0 (i : Nat) : BufTy := match i % 128 with
  | 0 => ⟨S4x2048x16x256, .f32⟩
  | 1 => ⟨S4, .f32⟩
  | 2 => ⟨S4, .f32⟩
  | 3 => ⟨S64x256, .f32⟩
  | 4 => ⟨S64x256, .f32⟩
  | 5 => ⟨S64x256, .f32⟩
  | 6 => ⟨S4x256, .f32⟩
  | 7 => ⟨S4, .f32⟩
  | 8 => ⟨S4x256, .f32⟩
  | 9 => ⟨S4, .f32⟩
  | 10 => ⟨S4x1, .f32⟩
  | 11 => ⟨S4x1, .f32⟩
  | 12 => ⟨S192x64, .f32⟩
  | 13 => ⟨S192, .f32⟩
  | 14 => ⟨S16, .f32⟩
  | 15 => ⟨S16, .f32⟩
  | 16 => ⟨S16, .f32⟩
  | 17 => ⟨S16, .f32⟩
  | 18 => ⟨S64x2048x256, .f32⟩
  | 19 => ⟨S256x64, .f32⟩
  | 20 => ⟨S64x2048x64, .f32⟩
  | 21 => ⟨S64x2048x4x16, .f32⟩
  | 22 => ⟨S_, .f32⟩
  | 23 => ⟨S64x2048x4, .f32⟩
  | 24 => ⟨S64x2048x4x1, .f32⟩
  | 25 => ⟨S_, .f32⟩
  | 26 => ⟨S64x2048x4x1, .f32⟩
  | 27 => ⟨S64x2048x4x1, .f32⟩
  | 28 => ⟨S64x2048x4x16, .f32⟩
  | 29 => ⟨S64x2048x4x16, .f32⟩
  | 30 => ⟨S64x2048x4x16, .f32⟩
  | 31 => ⟨S_, .f32⟩
  | 32 => ⟨S64x2048x4, .f32⟩
  | 33 => ⟨S64x2048x4x1, .f32⟩
  | 34 => ⟨S_, .f32⟩
  | 35 => ⟨S64x2048x4x1, .f32⟩
  | 36 => ⟨S64x2048x4x1, .f32⟩
  | 37 => ⟨S64x2048x4x16, .f32⟩
  | 38 => ⟨S64x2048x4x16, .f32⟩
  | 39 => ⟨S_, .f32⟩
  | 40 => ⟨S64x2048x4x1, .f32⟩
  | 41 => ⟨S64x2048x4x1, .f32⟩
  | 42 => ⟨S64x2048x4x1, .f32⟩
  | 43 => ⟨S64x2048x4x16, .f32⟩
  | 44 => ⟨S64x2048x4x16, .f32⟩
  | 45 => ⟨S1x1x1x16, .f32⟩
  | 46 => ⟨S64x2048x4x16, .f32⟩
  | 47 => ⟨S64x2048x4x16, .f32⟩
  | 48 => ⟨S1x1x1x16, .f32⟩
  | 49 => ⟨S64x2048x4x16, .f32⟩
  | 50 => ⟨S64x2048x4x16, .f32⟩
  | 51 => ⟨S256x64, .f32⟩
  | 52 => ⟨S64x2048x64, .f32⟩
  | 53 => ⟨S64x2048x4x16, .f32⟩
  | 54 => ⟨S_, .f32⟩
  | 55 => ⟨S64x2048x4, .f32⟩
  | 56 => ⟨S64x2048x4x1, .f32⟩
  | 57 => ⟨S_, .f32⟩
  | 58 => ⟨S64x2048x4x1, .f32⟩
  | 59 => ⟨S64x2048x4x1, .f32⟩
  | 60 => ⟨S64x2048x4x16, .f32⟩
  | 61 => ⟨S64x2048x4x16, .f32⟩
  | 62 => ⟨S64x2048x4x16, .f32⟩
  | 63 => ⟨S_, .f32⟩
  | 64 => ⟨S64x2048x4, .f32⟩
  | 65 => ⟨S64x2048x4x1, .f32⟩
  | 66 => ⟨S_, .f32⟩
  | 67 => ⟨S64x2048x4x1, .f32⟩
  | 68 => ⟨S64x2048x4x1, .f32⟩
  | 69 => ⟨S64x2048x4x16, .f32⟩
  | 70 => ⟨S64x2048x4x16, .f32⟩
  | 71 => ⟨S_, .f32⟩
  | 72 => ⟨S64x2048x4x1, .f32⟩
  | 73 => ⟨S64x2048x4x1, .f32⟩
  | 74 => ⟨S64x2048x4x1, .f32⟩
  | 75 => ⟨S64x2048x4x16, .f32⟩
  | 76 => ⟨S64x2048x4x16, .f32⟩
  | 77 => ⟨S1x1x1x16, .f32⟩
  | 78 => ⟨S64x2048x4x16, .f32⟩
  | 79 => ⟨S64x2048x4x16, .f32⟩
  | 80 => ⟨S1x1x1x16, .f32⟩
  | 81 => ⟨S64x2048x4x16, .f32⟩
  | 82 => ⟨S64x2048x4x16, .f32⟩
  | 83 => ⟨S256x64, .f32⟩
  | 84 => ⟨S64x2048x64, .f32⟩
  | 85 => ⟨S64x2048x4x16, .f32⟩
  | 86 => ⟨S64x2048x4x16, .f32⟩
  | 87 => ⟨S_, .f32⟩
  | 88 => ⟨S64x2048x4, .f32⟩
  | 89 => ⟨S64x2048x4x1, .f32⟩
  | 90 => ⟨S64x2048x4x1, .f32⟩
  | 91 => ⟨S_, .f32⟩
  | 92 => ⟨S_, .f32⟩
  | 93 => ⟨S64x2048x4x1, .f32⟩
  | 94 => ⟨S64x2048x4x1, .f32⟩
  | 95 => ⟨S64x2048x4x16, .f32⟩
  | 96 => ⟨S64x2048x4x16, .f32⟩
  | 97 => ⟨S256x4, .f32⟩
  | 98 => ⟨S64x2048x4, .f32⟩
  | 99 => ⟨S1x1x4, .f32⟩
  | 100 => ⟨S64x2048x4, .f32⟩
  | 101 => ⟨S64x2048x4, .f32⟩
  | 102 => ⟨S64x2048x4, .f32⟩
  | 103 => ⟨S64x2048x4, .f32⟩
  | 104 => ⟨S_, .f32⟩
  | 105 => ⟨S64x2048x4, .f32⟩
  | 106 => ⟨S64x2048x4, .f32⟩
  | 107 => ⟨S_, .f32⟩
  | 108 => ⟨S64x2048x4, .f32⟩
  | 109 => ⟨S64x2048x4, .f32⟩
  | 110 => ⟨S256x4, .f32⟩
  | 111 => ⟨S64x2048x4, .f32⟩
  | 112 => ⟨S1x1x4, .f32⟩
  | 113 => ⟨S64x2048x4, .f32⟩
  | 114 => ⟨S64x2048x4, .f32⟩
  | 115 => ⟨S64x2048x4, .f32⟩
  | 116 => ⟨S64x2048x4, .f32⟩
  | 117 => ⟨S_, .f32⟩
  | 118 => ⟨S64x2048x4, .f32⟩
  | 119 => ⟨S64x2048x4, .f32⟩
  | 120 => ⟨S_, .f32⟩
  | 121 => ⟨S64x2048x4, .f32⟩
  | 122 => ⟨S64x2048x4, .f32⟩
  | 123 => ⟨S4, .f32⟩
  | 124 => ⟨S_, .f32⟩
  | 125 => ⟨S_, .f32⟩
  | 126 => ⟨S4, .f32⟩
  | 127 => ⟨S4, .f32⟩
  | _ => ⟨S4x2048x16x256, .f32⟩

abbrev hbmTy0_1 (i : Nat) : BufTy := match i % 128 with
  | 0 => ⟨S4x16, .f32⟩
  | 1 => ⟨S64, .f32⟩
  | 2 => ⟨S64x1x1, .f32⟩
  | 3 => ⟨S4, .f32⟩
  | 4 => ⟨S1x1x4, .f32⟩
  | 5 => ⟨S64x1x4, .f32⟩
  | 6 => ⟨S64x1x4, .f32⟩
  | 7 => ⟨S64x1x4, .f32⟩
  | 8 => ⟨S64x2048x4, .f32⟩
  | 9 => ⟨S64x2048x4, .f32⟩
  | 10 => ⟨S64x2048x4, .f32⟩
  | 11 => ⟨S64x2048x4, .f32⟩
  | 12 => ⟨S_, .f32⟩
  | 13 => ⟨S64x2048x4, .f32⟩
  | 14 => ⟨S64x2048x4, .f32⟩
  | 15 => ⟨S_, .f32⟩
  | 16 => ⟨S64x2048x4, .f32⟩
  | 17 => ⟨S64x2048x4, .f32⟩
  | 18 => ⟨S_, .f32⟩
  | 19 => ⟨S_, .f32⟩
  | 20 => ⟨S_, .f32⟩
  | 21 => ⟨S4, .f32⟩
  | 22 => ⟨S4, .f32⟩
  | 23 => ⟨S_, .f32⟩
  | 24 => ⟨S4, .f32⟩
  | 25 => ⟨S4, .f32⟩
  | 26 => ⟨S4x16, .f32⟩
  | 27 => ⟨S64, .f32⟩
  | 28 => ⟨S64x1x1, .f32⟩
  | 29 => ⟨S4, .f32⟩
  | 30 => ⟨S1x1x4, .f32⟩
  | 31 => ⟨S64x1x4, .f32⟩
  | 32 => ⟨S64x1x4, .f32⟩
  | 33 => ⟨S64x1x4, .f32⟩
  | 34 => ⟨S64x2048x4, .f32⟩
  | 35 => ⟨S64x2048x4, .f32⟩
  | 36 => ⟨S64x2048x4, .f32⟩
  | 37 => ⟨S64x2048x4, .f32⟩
  | 38 => ⟨S_, .f32⟩
  | 39 => ⟨S64x2048x4, .f32⟩
  | 40 => ⟨S64x2048x4, .f32⟩
  | 41 => ⟨S_, .f32⟩
  | 42 => ⟨S64x2048x4, .f32⟩
  | 43 => ⟨S64x2048x4, .f32⟩
  | 44 => ⟨S_, .f32⟩
  | 45 => ⟨S64x4x16x16, .f32⟩
  | 46 => ⟨S2048x64x4x16, .f32⟩
  | 47 => ⟨S2048x64x4x16, .f32⟩
  | 48 => ⟨S2048x64x4x16, .f32⟩
  | 49 => ⟨S2048x64x4, .f32⟩
  | 50 => ⟨S2048x64x4, .f32⟩
  | 51 => ⟨S_, .f32⟩
  | 52 => ⟨S2048x64x4x16, .f32⟩
  | 53 => ⟨S_, .i32⟩
  | 54 => ⟨S2048x64x4x16, .f32⟩
  | 55 => ⟨S2048x64x4x16, .f32⟩
  | 56 => ⟨S2048x64x4x16, .f32⟩
  | 57 => ⟨S2048x64x4, .f32⟩
  | 58 => ⟨S2048x64x4, .f32⟩
  | 59 => ⟨S_, .i32⟩
  | 60 => ⟨S64x4x16x16, .f32⟩
  | 61 => ⟨S2048x64x4x16, .f32⟩
  | 62 => ⟨S_, .i32⟩
  | 63 => ⟨S_, .i1⟩
  | 64 => ⟨S_, .i32⟩
  | 65 => ⟨S_, .i32⟩
  | 66 => ⟨S_, .i32⟩
  | 67 => ⟨S1x64x4x16, .f32⟩
  | 68 => ⟨S64x4x16, .f32⟩
  | 69 => ⟨S_, .i32⟩
  | 70 => ⟨S_, .i32⟩
  | 71 => ⟨S_, .i32⟩
  | 72 => ⟨S1x64x4x16, .f32⟩
  | 73 => ⟨S64x4x16, .f32⟩
  | 74 => ⟨S_, .i32⟩
  | 75 => ⟨S_, .i32⟩
  | 76 => ⟨S_, .i32⟩
  | 77 => ⟨S1x64x4x16, .f32⟩
  | 78 => ⟨S64x4x16, .f32⟩
  | 79 => ⟨S_, .i32⟩
  | 80 => ⟨S_, .i32⟩
  | 81 => ⟨S1x64x4, .f32⟩
  | 82 => ⟨S64x4, .f32⟩
  | 83 => ⟨S_, .i32⟩
  | 84 => ⟨S_, .i32⟩
  | 85 => ⟨S1x64x4, .f32⟩
  | 86 => ⟨S64x4, .f32⟩
  | 87 => ⟨S64x4x16, .f32⟩
  | 88 => ⟨S64x4x16x1, .f32⟩
  | 89 => ⟨S64x4x1x16, .f32⟩
  | 90 => ⟨S64x4x16x16, .f32⟩
  | 91 => ⟨S64x4x16x16, .f32⟩
  | 92 => ⟨S64x4x16x16, .f32⟩
  | 93 => ⟨S64x4x16x1, .f32⟩
  | 94 => ⟨S64x4x1x16, .f32⟩
  | 95 => ⟨S64x4x16x16, .f32⟩
  | 96 => ⟨S64x4x16x16, .f32⟩
  | 97 => ⟨S64x4x16x16, .f32⟩
  | 98 => ⟨S64x4x1x1, .f32⟩
  | 99 => ⟨S64x4x16x16, .f32⟩
  | 100 => ⟨S64x4x16x16, .f32⟩
  | 101 => ⟨S64x4x16x16, .f32⟩
  | 102 => ⟨S64x4x1x1, .f32⟩
  | 103 => ⟨S64x4x16x16, .f32⟩
  | 104 => ⟨S64x4x16x16, .f32⟩
  | 105 => ⟨S64x4x16x16, .f32⟩
  | 106 => ⟨S64x4x16, .f32⟩
  | 107 => ⟨S1x64x4x16, .f32⟩
  | 108 => ⟨S_, .i32⟩
  | 109 => ⟨S_, .i32⟩
  | 110 => ⟨S_, .i32⟩
  | 111 => ⟨S2048x64x4x16, .f32⟩
  | 112 => ⟨S_, .i32⟩
  | 113 => ⟨S_, .i32⟩
  | 114 => ⟨S64x2048x4x16, .f32⟩
  | 115 => ⟨S64x2048x64, .f32⟩
  | 116 => ⟨S64x192, .f32⟩
  | 117 => ⟨S64x2048x192, .f32⟩
  | 118 => ⟨S1x1x192, .f32⟩
  | 119 => ⟨S64x2048x192, .f32⟩
  | 120 => ⟨S64x2048x192, .f32⟩
  | 121 => ⟨S4x16x2048x192, .f32⟩
  | 122 => ⟨S4x2048x16x192, .f32⟩
  | _ => ⟨S4x2048x16x256, .f32⟩

abbrev hbmTy (i : Nat) : BufTy := match i / 128 with
  | 0 => hbmTy0_0 i
  | 1 => hbmTy0_1 i
  | _ => ⟨S4x2048x16x256, .f32⟩

abbrev bufTy : (tb : Table) → Fin (tcTables nBuf tb) → BufTy
  | .hbm, ⟨i, _⟩ => hbmTy i
  | _, _ => ⟨S4x2048x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call0_v0 : Ref sig .tc := ⟨.hbm, 86, rfl⟩
abbrev main_call0_cst : Ref sig .tc := ⟨.hbm, 87, rfl⟩
abbrev main_call0_v1 : Ref sig .tc := ⟨.hbm, 88, rfl⟩
abbrev main_call0_v2 : Ref sig .tc := ⟨.hbm, 89, rfl⟩
abbrev main_v58 : Ref sig .tc := ⟨.hbm, 90, rfl⟩
abbrev main_cst_9 : Ref sig .tc := ⟨.hbm, 91, rfl⟩
abbrev main_call1_v0 : Ref sig .tc := ⟨.hbm, 92, rfl⟩
abbrev main_call1_v1 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_v69 : Ref sig .tc := ⟨.hbm, 105, rfl⟩
abbrev main_v70 : Ref sig .tc := ⟨.hbm, 106, rfl⟩
abbrev main_cst_11 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_12 : Ref sig .tc := ⟨.hbm, 117, rfl⟩
abbrev main_v80 : Ref sig .tc := ⟨.hbm, 118, rfl⟩
abbrev main_v81 : Ref sig .tc := ⟨.hbm, 119, rfl⟩
abbrev main_cst_13 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_14 : Ref sig .tc := ⟨.hbm, 124, rfl⟩
abbrev main_call2_v0 : Ref sig .tc := ⟨.hbm, 125, rfl⟩
abbrev main_call2_v1 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_15 : Ref sig .tc := ⟨.hbm, 140, rfl⟩
abbrev main_v98 : Ref sig .tc := ⟨.hbm, 141, rfl⟩
abbrev main_v99 : Ref sig .tc := ⟨.hbm, 142, rfl⟩
abbrev main_cst_16 : Ref sig .tc := ⟨.hbm, 143, rfl⟩
abbrev main_v100 : Ref sig .tc := ⟨.hbm, 144, rfl⟩
abbrev main_v101 : Ref sig .tc := ⟨.hbm, 145, rfl⟩
abbrev main_cst_17 : Ref sig .tc := ⟨.hbm, 146, rfl⟩
abbrev main_cst_18 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_19 : Ref sig .tc := ⟨.hbm, 166, rfl⟩
abbrev main_v115 : Ref sig .tc := ⟨.hbm, 167, rfl⟩
abbrev main_v116 : Ref sig .tc := ⟨.hbm, 168, rfl⟩
abbrev main_cst_20 : Ref sig .tc := ⟨.hbm, 169, rfl⟩
abbrev main_v117 : Ref sig .tc := ⟨.hbm, 170, rfl⟩
abbrev main_v118 : Ref sig .tc := ⟨.hbm, 171, rfl⟩
abbrev main_cst_21 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_22 : Ref sig .tc := ⟨.hbm, 179, rfl⟩
abbrev main_v125 : Ref sig .tc := ⟨.hbm, 180, rfl⟩
abbrev main_c : Ref sig .tc := ⟨.hbm, 181, rfl⟩
abbrev main_v126_0 : Ref sig .tc := ⟨.hbm, 182, rfl⟩
abbrev main_v126_1 : Ref sig .tc := ⟨.hbm, 183, rfl⟩
abbrev main_v126_2 : Ref sig .tc := ⟨.hbm, 184, rfl⟩
abbrev main_v126_3 : Ref sig .tc := ⟨.hbm, 185, rfl⟩
abbrev main_v126_4 : Ref sig .tc := ⟨.hbm, 186, rfl⟩
abbrev main_v126_5 : Ref sig .tc := ⟨.hbm, 187, rfl⟩
abbrev main_v126_6 : Ref sig .tc := ⟨.hbm, 188, rfl⟩
abbrev main_v126_7 : Ref sig .tc := ⟨.hbm, 189, rfl⟩
abbrev main_while0c_c_30 : Ref sig .tc := ⟨.hbm, 190, rfl⟩
abbrev main_while0c_v136 : Ref sig .tc := ⟨.hbm, 191, rfl⟩
abbrev main_while0b_call4_c : Ref sig .tc := ⟨.hbm, 192, rfl⟩
abbrev main_while0b_call4_c_0 : Ref sig .tc := ⟨.hbm, 193, rfl⟩
abbrev main_while0b_call4_c_1 : Ref sig .tc := ⟨.hbm, 194, rfl⟩
abbrev main_while0b_call4_v0 : Ref sig .tc := ⟨.hbm, 195, rfl⟩
abbrev main_while0b_v136 : Ref sig .tc := ⟨.hbm, 196, rfl⟩
abbrev main_while0b_call5_c : Ref sig .tc := ⟨.hbm, 197, rfl⟩
abbrev main_while0b_call5_c_0 : Ref sig .tc := ⟨.hbm, 198, rfl⟩
abbrev main_while0b_call5_c_1 : Ref sig .tc := ⟨.hbm, 199, rfl⟩
abbrev main_while0b_call5_v0 : Ref sig .tc := ⟨.hbm, 200, rfl⟩
abbrev main_while0b_v137 : Ref sig .tc := ⟨.hbm, 201, rfl⟩
abbrev main_while0b_call6_c : Ref sig .tc := ⟨.hbm, 202, rfl⟩
abbrev main_while0b_call6_c_0 : Ref sig .tc := ⟨.hbm, 203, rfl⟩
abbrev main_while0b_call6_c_1 : Ref sig .tc := ⟨.hbm, 204, rfl⟩
abbrev main_while0b_call6_v0 : Ref sig .tc := ⟨.hbm, 205, rfl⟩
abbrev main_while0b_v138 : Ref sig .tc := ⟨.hbm, 206, rfl⟩
abbrev main_while0b_call7_c : Ref sig .tc := ⟨.hbm, 207, rfl⟩
abbrev main_while0b_call7_c_0 : Ref sig .tc := ⟨.hbm, 208, rfl⟩
abbrev main_while0b_call7_v0 : Ref sig .tc := ⟨.hbm, 209, rfl⟩
abbrev main_while0b_v139 : Ref sig .tc := ⟨.hbm, 210, rfl⟩
abbrev main_while0b_call8_c : Ref sig .tc := ⟨.hbm, 211, rfl⟩
abbrev main_while0b_call8_c_0 : Ref sig .tc := ⟨.hbm, 212, rfl⟩
abbrev main_while0b_call8_v0 : Ref sig .tc := ⟨.hbm, 213, rfl⟩
abbrev main_while0b_v140 : Ref sig .tc := ⟨.hbm, 214, rfl⟩
abbrev main_while0b_v141 : Ref sig .tc := ⟨.hbm, 215, rfl⟩
abbrev main_while0b_v142 : Ref sig .tc := ⟨.hbm, 216, rfl⟩
abbrev main_while0b_v143 : Ref sig .tc := ⟨.hbm, 217, rfl⟩
abbrev main_while0b_v144 : Ref sig .tc := ⟨.hbm, 218, rfl⟩
abbrev main_while0b_v145 : Ref sig .tc := ⟨.hbm, 219, rfl⟩
abbrev main_while0b_v146 : Ref sig .tc := ⟨.hbm, 220, rfl⟩
abbrev main_while0b_v147 : Ref sig .tc := ⟨.hbm, 221, rfl⟩
abbrev main_while0b_v148 : Ref sig .tc := ⟨.hbm, 222, rfl⟩
abbrev main_while0b_v149 : Ref sig .tc := ⟨.hbm, 223, rfl⟩
abbrev main_while0b_v150 : Ref sig .tc := ⟨.hbm, 224, rfl⟩
abbrev main_while0b_v151 : Ref sig .tc := ⟨.hbm, 225, rfl⟩
abbrev main_while0b_v152 : Ref sig .tc := ⟨.hbm, 226, rfl⟩
abbrev main_while0b_v153 : Ref sig .tc := ⟨.hbm, 227, rfl⟩
abbrev main_while0b_v154 : Ref sig .tc := ⟨.hbm, 228, rfl⟩
abbrev main_while0b_v155 : Ref sig .tc := ⟨.hbm, 229, rfl⟩
abbrev main_while0b_v156 : Ref sig .tc := ⟨.hbm, 230, rfl⟩
abbrev main_while0b_v157 : Ref sig .tc := ⟨.hbm, 231, rfl⟩
abbrev main_while0b_v158 : Ref sig .tc := ⟨.hbm, 232, rfl⟩
abbrev main_while0b_v159 : Ref sig .tc := ⟨.hbm, 233, rfl⟩
abbrev main_while0b_v160 : Ref sig .tc := ⟨.hbm, 234, rfl⟩
abbrev main_while0b_call9_v0 : Ref sig .tc := ⟨.hbm, 235, rfl⟩
abbrev main_while0b_call9_c : Ref sig .tc := ⟨.hbm, 236, rfl⟩
abbrev main_while0b_call9_c_0 : Ref sig .tc := ⟨.hbm, 237, rfl⟩
abbrev main_while0b_call9_c_1 : Ref sig .tc := ⟨.hbm, 238, rfl⟩
abbrev main_while0b_v161 : Ref sig .tc := ⟨.hbm, 239, rfl⟩
abbrev main_while0b_c_30 : Ref sig .tc := ⟨.hbm, 240, rfl⟩
abbrev main_while0b_v162 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩

abbrev nD : Nat := 1
abbrev τ : Topo := Topo.v7x

variable {F : FTy → Type} [FloatOps F]

abbrev main_while0_count : Scf.Loop 32 := ⟨0#32, 2048#32, 1#32⟩
-- ==== Proof.Reals.lean ====
/-
  The mathematics over the reals, with no program in sight: the gated delta rule as a recurrence over time, one chunk
  of 128 of its steps as a strictly triangular linear system, and the system's solution block by block through the
  product form of the inverse of a unit triangular matrix.
-/
module

public import Mathlib.Algebra.Polynomial.AlgebraMap
public import Mathlib.Data.Matrix.Mul
public import Mathlib.Data.Matrix.Basic
public import Mathlib.Algebra.BigOperators.Fin
public import Mathlib.Analysis.Real.Sqrt
public import Mathlib.Tactic.Ring
public import Mathlib.Tactic.Linarith

@[expose] public section
noncomputable section

namespace DeltaRule

open scoped BigOperators

/-- One sequence and head: keys, values, queries and the two gates (`a` forgets, `b` writes) over time. -/
structure Seq where
  k : ℕ → Fin 16 → ℝ
  v : ℕ → Fin 16 → ℝ
  q : ℕ → Fin 16 → ℝ
  a : ℕ → ℝ
  b : ℕ → ℝ

namespace Seq
variable (S : Seq)

/-- The state before step `t`. -/
def st : ℕ → Fin 16 → Fin 16 → ℝ
  | 0 => fun _ _ => 0
  | t + 1 => fun i j => st t i j - S.a t * ((∑ l, st t i l * S.k t l) * S.k t j) + S.b t * (S.v t i * S.k t j)

/-- The output of step `t`, read from the state the step leaves. -/
def out (t : ℕ) (i : Fin 16) : ℝ := ∑ j, S.st (t + 1) i j * S.q t j

/-- What step `t` subtracts from the state along its key. -/
def upd (t : ℕ) (i : Fin 16) : ℝ := S.a t * (∑ l, S.st t i l * S.k t l) - S.b t * S.v t i

theorem st_succ (t : ℕ) (i j : Fin 16) : S.st (t + 1) i j = S.st t i j - S.upd t i * S.k t j := by
  simp only [st, upd]; ring

/-- `n` steps on from `t0`, the state has lost the updates made since. -/
theorem st_add (t0 n : ℕ) (i j : Fin 16) :
    S.st (t0 + n) i j = S.st t0 i j - ∑ s ∈ Finset.range n, S.upd (t0 + s) i * S.k (t0 + s) j := by
  induction n with
  | zero => simp
  | succ n ih => rw [← Nat.add_assoc, st_succ, ih, Finset.sum_range_succ]; ring

end Seq

/-- A sum over the first `n` naturals below `N`, as a sum over `Fin N` under the test `· < n`. -/
theorem sum_range_fin {N n : ℕ} (h : n ≤ N) (f : ℕ → ℝ) :
    ∑ s ∈ Finset.range n, f s = ∑ s : Fin N, if s.val < n then f s.val else 0 := by
  rw [Fin.sum_univ_eq_sum_range (fun s => if s < n then f s else 0) N, ← Finset.sum_filter]
  refine Finset.sum_congr ?_ fun _ _ => rfl
  ext s; simp only [Finset.mem_range, Finset.mem_filter]; omega

namespace Seq
variable (S : Seq)

/-- The strictly triangular matrix of a chunk that starts at `t0`. -/
def amat (t0 : ℕ) (s t : Fin 128) : ℝ :=
  if s.val < t.val then ∑ d, S.k (t0 + s) d * (S.k (t0 + t) d * S.a (t0 + t)) else 0

/-- The chunk's right-hand side. -/
def rhs (t0 : ℕ) (i : Fin 16) (t : Fin 128) : ℝ :=
  (∑ j, S.st t0 i j * (S.k (t0 + t) j * S.a (t0 + t))) - S.v (t0 + t) i * S.b (t0 + t)

/-- The updates of a chunk solve its triangular system. -/
theorem upd_solves (t0 : ℕ) (i : Fin 16) (t : Fin 128) :
    S.upd (t0 + t) i = S.rhs t0 i t - ∑ s : Fin 128, S.upd (t0 + s) i * S.amat t0 s t := by
  have h : ∑ l, S.st (t0 + t) i l * S.k (t0 + t) l
      = (∑ l, S.st t0 i l * S.k (t0 + t) l)
        - ∑ s : Fin 128, if s.val < t.val then S.upd (t0 + s) i * ∑ l, S.k (t0 + s) l * S.k (t0 + t) l else 0 := by
    simp only [S.st_add t0 t, sub_mul, Finset.sum_sub_distrib]
    congr 1
    simp only [Finset.sum_mul]
    rw [Finset.sum_comm]
    rw [sum_range_fin (N := 128) (le_of_lt t.isLt)
      (fun s => ∑ l, S.upd (t0 + s) i * S.k (t0 + s) l * S.k (t0 + t) l)]
    refine Finset.sum_congr rfl fun s _ => ?_
    split_ifs
    · rw [Finset.mul_sum]; exact Finset.sum_congr rfl fun l _ => by ring
    · rfl
  rw [upd, h, rhs, mul_sub, Finset.mul_sum, Finset.mul_sum]
  have h1 : ∑ l, S.a (t0 + t) * (S.st t0 i l * S.k (t0 + t) l)
      = ∑ j, S.st t0 i j * (S.k (t0 + t) j * S.a (t0 + t)) := Finset.sum_congr rfl fun l _ => by ring
  have h2 : ∑ s : Fin 128, S.a (t0 + t) * (if s.val < t.val then S.upd (t0 + s) i * ∑ l, S.k (t0 + s) l * S.k (t0 + t) l else 0)
      = ∑ s : Fin 128, S.upd (t0 + s) i * S.amat t0 s t := by
    refine Finset.sum_congr rfl fun s _ => ?_
    unfold amat
    split_ifs
    · rw [Finset.mul_sum, Finset.mul_sum, Finset.mul_sum]; exact Finset.sum_congr rfl fun l _ => by ring
    · ring
  rw [h1, h2]; ring

/-- The state a chunk leaves. -/
theorem st_chunk (t0 : ℕ) (i j : Fin 16) :
    S.st (t0 + 128) i j = S.st t0 i j - ∑ s : Fin 128, S.upd (t0 + s) i * S.k (t0 + s) j := by
  rw [st_add, Fin.sum_univ_eq_sum_range (fun s => S.upd (t0 + s) i * S.k (t0 + s) j) 128]

/-- An output of a chunk. -/
theorem out_chunk (t0 : ℕ) (i : Fin 16) (t : Fin 128) :
    S.out (t0 + t) i = (∑ j, S.st t0 i j * S.q (t0 + t) j)
      - ∑ s : Fin 128, S.upd (t0 + s) i * (if s.val ≤ t.val then ∑ d, S.k (t0 + s) d * S.q (t0 + t) d else 0) := by
  unfold out
  simp only [Nat.add_assoc, S.st_add t0 (t + 1), sub_mul, Finset.sum_sub_distrib]
  congr 1
  simp only [Finset.sum_mul]
  rw [Finset.sum_comm]
  rw [sum_range_fin (N := 128) t.isLt (fun s => ∑ l, S.upd (t0 + s) i * S.k (t0 + s) l * S.q (t0 + t) l)]
  refine Finset.sum_congr rfl fun s _ => ?_
  by_cases hs : s.val ≤ t.val
  · rw [if_pos hs, if_pos (by omega), Finset.mul_sum]; exact Finset.sum_congr rfl fun l _ => by ring
  · rw [if_neg hs, if_neg (by omega), mul_zero]

end Seq

/-! ## The inverse of a unit triangular block as a product -/

/-- `(1 + N)(1 + N²)(1 + N⁴)(1 + N⁸)(1 + N¹⁶)`, the powers by repeated squaring. -/
def prodInv (N : Matrix (Fin 32) (Fin 32) ℝ) : Matrix (Fin 32) (Fin 32) ℝ :=
  ((1 + N) * (1 + N * N)) * ((1 + (N * N) * (N * N)) * (1 + ((N * N) * (N * N)) * ((N * N) * (N * N))))
    * (1 + (((N * N) * (N * N)) * ((N * N) * (N * N))) * (((N * N) * (N * N)) * ((N * N) * (N * N))))

theorem pow_strict (N : Matrix (Fin 32) (Fin 32) ℝ) (h : ∀ i j, ¬i.val < j.val → N i j = 0) (n : ℕ) :
    ∀ i j : Fin 32, ¬i.val + n ≤ j.val → (N ^ n) i j = 0 := by
  induction n with
  | zero => intro i j hij; rw [pow_zero, Matrix.one_apply_ne]; rintro rfl; exact hij (by omega)
  | succ n ih =>
    intro i j hij
    rw [pow_succ, Matrix.mul_apply]
    refine Finset.sum_eq_zero fun l _ => ?_
    by_cases hl : i.val + n ≤ l.val
    · rw [h l j (by omega), mul_zero]
    · rw [ih i l hl, zero_mul]

theorem prodInv_mul (N : Matrix (Fin 32) (Fin 32) ℝ) (h : ∀ i j, ¬i.val < j.val → N i j = 0) :
    (1 - N) * prodInv N = 1 := by
  have h32 : N ^ 32 = 0 := by
    ext i j; exact pow_strict N h 32 i j (by have := j.isLt; omega)
  have hp : ((1 - Polynomial.X) * ((((1 + Polynomial.X) * (1 + Polynomial.X * Polynomial.X)) * ((1 + (Polynomial.X * Polynomial.X) * (Polynomial.X * Polynomial.X)) * (1 + ((Polynomial.X * Polynomial.X) * (Polynomial.X * Polynomial.X)) * ((Polynomial.X * Polynomial.X) * (Polynomial.X * Polynomial.X)))) * (1 + (((Polynomial.X * Polynomial.X) * (Polynomial.X * Polynomial.X)) * ((Polynomial.X * Polynomial.X) * (Polynomial.X * Polynomial.X))) * (((Polynomial.X * Polynomial.X) * (Polynomial.X * Polynomial.X)) * ((Polynomial.X * Polynomial.X) * (Polynomial.X * Polynomial.X)))))) : Polynomial ℝ) = 1 - Polynomial.X ^ 32 := by ring
  have := congrArg (Polynomial.aeval N) hp
  simp only [map_mul, map_sub, map_add, map_one, map_pow, Polynomial.aeval_X, h32, sub_zero] at this
  unfold prodInv
  exact this

/-- A sum over 128 cut at `n` and `n + 32`. -/
theorem sum_split (n m : ℕ) (h : n + 32 + m = 128) (f : Fin 128 → ℝ) :
    ∑ r, f r = (∑ r : Fin n, f ⟨r, by have := r.isLt; omega⟩) + (∑ s : Fin 32, f ⟨n + s, by have := s.isLt; omega⟩)
      + ∑ s : Fin m, f ⟨n + 32 + s, by have := s.isLt; omega⟩ := by
  have key : ∀ (N : ℕ) (hN : n + 32 + m = N) (f : Fin N → ℝ),
      ∑ r, f r = (∑ r : Fin n, f ⟨r, by have := r.isLt; omega⟩) + (∑ s : Fin 32, f ⟨n + s, by have := s.isLt; omega⟩)
        + ∑ s : Fin m, f ⟨n + 32 + s, by have := s.isLt; omega⟩ := by
    rintro N rfl f
    rw [Fin.sum_univ_add, Fin.sum_univ_add]
    rfl
  exact key 128 h f

/-- BLOCK SOLVE: a solution `U` of a strictly triangular system is, on the block of 32 columns that starts at `n`, the
    right-hand side less the part of the columns before it, times the block's inverse in product form. -/
theorem solve_block (n m : ℕ) (h : n + 32 + m = 128) (A : Fin 128 → Fin 128 → ℝ) (hA : ∀ s t, ¬s.val < t.val → A s t = 0)
    (U Rh : Fin 128 → ℝ) (hU : ∀ t, U t = Rh t - ∑ s, U s * A s t) (t : Fin 32) :
    (∑ s : Fin 32, (Rh ⟨n + s, by have := s.isLt; omega⟩
        - ∑ r : Fin n, U ⟨r, by have := r.isLt; omega⟩ * A ⟨r, by have := r.isLt; omega⟩ ⟨n + s, by have := s.isLt; omega⟩)
      * prodInv (fun a b => 0 - A ⟨n + a, by have := a.isLt; omega⟩ ⟨n + b, by have := b.isLt; omega⟩) s t)
    = U ⟨n + t, by have := t.isLt; omega⟩ := by
  obtain ⟨N, hN⟩ : ∃ N : Matrix (Fin 32) (Fin 32) ℝ,
      N = fun (a b : Fin 32) => 0 - A ⟨n + a, by have := a.isLt; omega⟩ ⟨n + b, by have := b.isLt; omega⟩ := ⟨_, rfl⟩
  have hNa : ∀ a b, N a b = 0 - A ⟨n + a, by have := a.isLt; omega⟩ ⟨n + b, by have := b.isLt; omega⟩ :=
    fun a b => by rw [hN]
  rw [← hN]
  have hs : ∀ s : Fin 32, (Rh ⟨n + s, by have := s.isLt; omega⟩
        - ∑ r : Fin n, U ⟨r, by have := r.isLt; omega⟩ * A ⟨r, by have := r.isLt; omega⟩ ⟨n + s, by have := s.isLt; omega⟩)
      = ∑ l : Fin 32, U ⟨n + l, by have := l.isLt; omega⟩ * (1 - N) l s := by
    intro s
    have e := hU ⟨n + s, by have := s.isLt; omega⟩
    rw [sum_split n m h] at e
    have hz : ∑ l : Fin m, U ⟨n + 32 + l, by have := l.isLt; omega⟩ * A ⟨n + 32 + l, by have := l.isLt; omega⟩ ⟨n + s, by have := s.isLt; omega⟩ = 0 :=
      Finset.sum_eq_zero fun l _ => by
        rw [hA _ _ (by have := s.isLt; dsimp only; omega), mul_zero]
    rw [hz] at e
    have h1 : ∑ l : Fin 32, U ⟨n + l, by have := l.isLt; omega⟩ * (1 - N) l s
        = U ⟨n + s, by have := s.isLt; omega⟩ + ∑ l : Fin 32, U ⟨n + l, by have := l.isLt; omega⟩ * A ⟨n + l, by have := l.isLt; omega⟩ ⟨n + s, by have := s.isLt; omega⟩ := by
      simp only [Matrix.sub_apply, Matrix.one_apply, hNa, zero_sub, sub_neg_eq_add, mul_add, Finset.sum_add_distrib,
        mul_ite, mul_one, mul_zero, Finset.sum_ite_eq', Finset.mem_univ, if_true]
    rw [h1]
    linarith
  simp only [hs, Finset.sum_mul]
  rw [Finset.sum_comm]
  have hm := prodInv_mul N (fun i j hij => by rw [hNa, hA _ _ (by dsimp only; omega), sub_zero])
  have : ∀ l : Fin 32, ∑ s : Fin 32, U ⟨n + l, by have := l.isLt; omega⟩ * (1 - N) l s * prodInv N s t
      = U ⟨n + l, by have := l.isLt; omega⟩ * (1 : Matrix (Fin 32) (Fin 32) ℝ) l t := by
    intro l
    rw [← congrFun (congrFun hm l) t, Matrix.mul_apply, Finset.mul_sum]
    exact Finset.sum_congr rfl fun s _ => mul_assoc _ _ _
  simp only [this, Matrix.one_apply, mul_ite, mul_one, mul_zero, Finset.sum_ite_eq', Finset.mem_univ, if_true]

end DeltaRule
end
-- ==== Proof.Norm.lean ====
/-
  The normalisations and the gates over the extended reals: a group of 16 numbers with its mean taken off, scaled to
  unit variance or to unit length. Each result is a real number whatever the inputs are, and the spellings of the two
  programs agree: multiplication by the reciprocal root against division by the root, and a key scaled to unit length
  directly against one first scaled to unit variance.
-/
module

public import proofs.«01_k».proof.Proof.Reals
public import Idealize.ShloMosaic.Lib.IdealHost

@[expose] public section
noncomputable section

namespace DeltaRule

open Idealize.ShloMosaic

/-! ## The constants the programs spell -/

/-- The variance's guard. -/
def eps : ℝ := 10995116 / 2 ^ 40
/-- The least length a key is divided by. -/
def tiny : ℝ := 9223372 / 2 ^ 63

theorem eps_pos : 0 < eps := by unfold eps; norm_num
theorem eps_lt : eps < 1 / 2 := by unfold eps; norm_num
theorem tiny_pos : 0 < tiny := by unfold tiny; norm_num
theorem tiny_lt : tiny < 1 := by unfold tiny; norm_num

theorem ofBits_sixteenth : Ideal.ofBits .f32 0x3D800000#32 = ((1 / 16 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num
theorem ofBits_eps : Ideal.ofBits .f32 0x3727C5AC#32 = (eps : EReal) := by
  simp [Ideal.ofBits, Ideal.ieee, -EReal.coe_mul, eps]; norm_num
theorem ofBits_tiny : Ideal.ofBits .f32 0x2B8CBCCC#32 = (tiny : EReal) := by
  simp [Ideal.ofBits, Ideal.ieee, -EReal.coe_mul, tiny]; norm_num
theorem ofBits_inf : Ideal.ofBits .f32 0x7F800000#32 = ⊤ := by
  simp [Ideal.ofBits, Ideal.ieee]

/-! ## Sums of extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum_coe {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem mul_self_nonneg' (x : EReal) : 0 ≤ x * x := by
  induction x with
  | bot => simp
  | top => simp
  | coe r => exact_mod_cast mul_self_nonneg r

theorem ne_top_of_sum {ι : Type} (s : Finset ι) (f : ι → EReal) (h0 : ∀ i ∈ s, 0 ≤ f i) (h : ∑ i ∈ s, f i ≠ ⊤) :
    ∀ i ∈ s, f i ≠ ⊤ := by
  intro i hi ht
  apply h
  have := Finset.single_le_sum h0 hi
  rw [ht] at this
  exact top_le_iff.mp this

/-! ## A group of 16 -/

/-- The group's mean. -/
def mean (y : Fin 16 → EReal) : EReal := ((1 / 16 : ℝ) : EReal) * ∑ d, y d
/-- The group with its mean taken off. -/
def dev (y : Fin 16 → EReal) (d : Fin 16) : EReal := y d - mean y
/-- The sum of the squares of the deviations. -/
def sq (y : Fin 16 → EReal) : EReal := ∑ d, dev y d * dev y d
/-- The group scaled to unit variance. -/
def lnE (y : Fin 16 → EReal) (d : Fin 16) : EReal :=
  dev y d * Ideal.rsqrt (((1 / 16 : ℝ) : EReal) * sq y + (eps : EReal))
/-- The group scaled to unit length. -/
def unE (y : Fin 16 → EReal) (d : Fin 16) : EReal := Ideal.div (dev y d) (max (Ideal.sqrt (sq y)) (tiny : EReal))
/-- `lnE` as a real number. -/
def lnR (y : Fin 16 → EReal) (d : Fin 16) : ℝ := (lnE y d).toReal
/-- `unE` as a real number. -/
def unR (y : Fin 16 → EReal) (d : Fin 16) : ℝ := (unE y d).toReal
/-- A gate: the logistic function applied to a logistic value and a shift. -/
def gateR (g m : EReal) : ℝ := (Ideal.logistic (Ideal.logistic g + m)).toReal

theorem div_sixteen (x : EReal) : Ideal.div x ((16 : ℝ) : EReal) = ((1 / 16 : ℝ) : EReal) * x := by
  rw [Ideal.div, if_neg (by norm_num), ← EReal.coe_inv, mul_comm]; norm_num

theorem sq_cases (y : Fin 16 → EReal) :
    sq y = ⊤ ∨ ∃ δ : Fin 16 → ℝ, (∀ d, dev y d = (δ d : EReal)) ∧ sq y = ((∑ d, δ d * δ d : ℝ) : EReal) := by
  by_cases h : sq y = ⊤
  · exact .inl h
  · right
    have ht := ne_top_of_sum _ _ (fun d _ => mul_self_nonneg' (dev y d)) h
    have hr : ∀ d, dev y d = ((dev y d).toReal : EReal) := by
      intro d
      have := ht d (Finset.mem_univ d)
      rw [EReal.coe_toReal]
      · intro e; rw [e] at this; exact this (by simp)
      · intro e; rw [e] at this; exact this (by simp)
    refine ⟨fun d => (dev y d).toReal, hr, ?_⟩
    rw [coe_sum]
    unfold sq
    refine Finset.sum_congr rfl fun d _ => ?_
    rw [EReal.coe_mul, ← hr]

theorem var_pos (S : ℝ) (hS : 0 ≤ S) : 0 < 1 / 16 * S + eps := by have := eps_pos; positivity

theorem rsqrt_pos {r : ℝ} (h : 0 < r) : Ideal.rsqrt (r : EReal) = (((Real.sqrt r)⁻¹ : ℝ) : EReal) := by
  change (if r < 0 then (⊥ : EReal) else if r = 0 then ⊤ else ((Real.sqrt r)⁻¹ : ℝ)) = _
  rw [if_neg h.le.not_gt, if_neg h.ne']

theorem sqrt_nonneg {r : ℝ} (h : 0 ≤ r) : Ideal.sqrt (r : EReal) = (Real.sqrt r : EReal) := by
  change (if r < 0 then (⊥ : EReal) else (Real.sqrt r : EReal)) = _
  rw [if_neg h.not_gt]

theorem div_coe_coe (x : ℝ) {y : ℝ} (h : y ≠ 0) : Ideal.div (x : EReal) (y : EReal) = ((x / y : ℝ) : EReal) := by
  rw [Ideal.div, if_neg (by exact_mod_cast h), ← EReal.coe_inv, ← EReal.coe_mul, div_eq_mul_inv]

theorem div_top (x : EReal) : Ideal.div x ⊤ = 0 := by
  rw [Ideal.div, if_neg EReal.top_ne_zero, EReal.inv_top, mul_zero]

theorem var_top : ((1 / 16 : ℝ) : EReal) * ⊤ + (eps : EReal) = ⊤ := by
  rw [EReal.coe_mul_top_of_pos (by norm_num), EReal.top_add_coe]

theorem sum_sq_nonneg (δ : Fin 16 → ℝ) : 0 ≤ ∑ d, δ d * δ d := Finset.sum_nonneg fun d _ => mul_self_nonneg _

theorem var_coe (S : ℝ) : ((1 / 16 : ℝ) : EReal) * (S : EReal) + (eps : EReal) = ((1 / 16 * S + eps : ℝ) : EReal) := by
  rw [← EReal.coe_mul, ← EReal.coe_add]

theorem lnE_top {y : Fin 16 → EReal} (h : sq y = ⊤) (d : Fin 16) : lnE y d = 0 := by
  rw [lnE, h, var_top]; change dev y d * 0 = 0; rw [mul_zero]

theorem lnE_real {y : Fin 16 → EReal} {δ : Fin 16 → ℝ} (hd : ∀ d, dev y d = (δ d : EReal))
    (h : sq y = ((∑ d, δ d * δ d : ℝ) : EReal)) (d : Fin 16) :
    lnE y d = ((δ d / Real.sqrt (1 / 16 * (∑ d, δ d * δ d) + eps) : ℝ) : EReal) := by
  rw [lnE, h, hd, var_coe, rsqrt_pos (var_pos _ (sum_sq_nonneg δ)), ← EReal.coe_mul,
    div_eq_mul_inv (δ d)]

theorem lnE_coe (y : Fin 16 → EReal) (d : Fin 16) : lnE y d = (lnR y d : EReal) := by
  unfold lnR
  rcases sq_cases y with h | ⟨δ, hd, h⟩
  · rw [lnE_top h]; simp
  · rw [lnE_real hd h, EReal.toReal_coe]

/-- Division by the root of the variance is multiplication by its reciprocal root. -/
theorem ln_div (y : Fin 16 → EReal) (d : Fin 16) :
    Ideal.div (dev y d) (Ideal.sqrt (((1 / 16 : ℝ) : EReal) * sq y + (eps : EReal))) = lnE y d := by
  rcases sq_cases y with h | ⟨δ, hd, h⟩
  · rw [lnE_top h, h, var_top]; exact div_top _
  · have hp := var_pos _ (sum_sq_nonneg δ)
    rw [lnE_real hd h, h, hd, var_coe, sqrt_nonneg hp.le, div_coe_coe _ (Real.sqrt_pos.mpr hp).ne']

theorem unE_top {y : Fin 16 → EReal} (h : sq y = ⊤) (d : Fin 16) : unE y d = 0 := by
  rw [unE, h]; change Ideal.div _ (max ⊤ _) = 0; rw [max_eq_left le_top, div_top]

theorem max_sqrt (S : ℝ) (h : 0 ≤ S) :
    max (Ideal.sqrt (S : EReal)) (tiny : EReal) = ((max (Real.sqrt S) tiny : ℝ) : EReal) := by
  rw [sqrt_nonneg h]; exact (EReal.coe_strictMono.monotone.map_max).symm

theorem max_tiny_pos (x : ℝ) : max x tiny ≠ 0 := (lt_max_of_lt_right tiny_pos).ne'

theorem unE_real {y : Fin 16 → EReal} {δ : Fin 16 → ℝ} (hd : ∀ d, dev y d = (δ d : EReal))
    (h : sq y = ((∑ d, δ d * δ d : ℝ) : EReal)) (d : Fin 16) :
    unE y d = ((δ d / max (Real.sqrt (∑ d, δ d * δ d)) tiny : ℝ) : EReal) := by
  rw [unE, h, hd, max_sqrt _ (sum_sq_nonneg δ), div_coe_coe _ (max_tiny_pos _)]

theorem unE_coe (y : Fin 16 → EReal) (d : Fin 16) : unE y d = (unR y d : EReal) := by
  unfold unR
  rcases sq_cases y with h | ⟨δ, hd, h⟩
  · rw [unE_top h]; simp
  · rw [unE_real hd h, EReal.toReal_coe]

/-- A vector that is long enough stays so when it is scaled to unit variance. -/
theorem long_enough (S : ℝ) (hS : 0 ≤ S) (h : tiny ≤ Real.sqrt S) :
    tiny ≤ Real.sqrt S / Real.sqrt (1 / 16 * S + eps) := by
  have hp := Real.sqrt_pos.mpr (var_pos S hS)
  have ht := tiny_pos
  have ht1 := tiny_lt
  have he := eps_lt
  rw [le_div_iff₀ hp]
  by_cases h1 : Real.sqrt (1 / 16 * S + eps) ≤ 1
  · nlinarith
  · have hv : 1 < 1 / 16 * S + eps := by
      by_contra hn
      have := Real.sqrt_le_sqrt (not_lt.mp hn)
      rw [Real.sqrt_one] at this
      exact h1 this
    have : Real.sqrt (1 / 16 * S + eps) ≤ Real.sqrt S := Real.sqrt_le_sqrt (by linarith)
    nlinarith

/-- A key scaled to unit variance and then to unit length is the key scaled to unit length. -/
theorem un_ln (y : Fin 16 → EReal) (h : Ideal.sqrt (sq y) = 0 ∨ (tiny : EReal) ≤ Ideal.sqrt (sq y)) (d : Fin 16) :
    Ideal.div (lnE y d) (max (Ideal.sqrt (∑ d, lnE y d * lnE y d)) (tiny : EReal)) = unE y d := by
  rcases sq_cases y with hs | ⟨δ, hd, hs⟩
  · simp only [lnE_top hs, unE_top hs]
    have : Ideal.sqrt (∑ d : Fin 16, (0 : EReal) * 0) = ((0 : ℝ) : EReal) := by
      simp only [mul_zero, Finset.sum_const_zero]
      have := sqrt_nonneg (le_refl (0 : ℝ))
      rw [Real.sqrt_zero] at this
      exact this
    rw [this]
    have h0 : max ((0 : ℝ) : EReal) (tiny : EReal) = (tiny : EReal) := max_eq_right (by exact_mod_cast tiny_pos.le)
    rw [h0, ← EReal.coe_zero, div_coe_coe _ tiny_pos.ne', _root_.zero_div]
  · simp only [lnE_real hd hs, unE_real hd hs]
    have hS := sum_sq_nonneg δ
    rw [hs, sqrt_nonneg hS] at h
    generalize hSd : ∑ d, δ d * δ d = S at *
    have hp := var_pos S hS
    have hsp := Real.sqrt_pos.mpr hp
    have e : ∑ d : Fin 16, ((δ d / Real.sqrt (1 / 16 * S + eps) : ℝ) : EReal) * ((δ d / Real.sqrt (1 / 16 * S + eps) : ℝ) : EReal)
        = ((S / (1 / 16 * S + eps) : ℝ) : EReal) := by
      simp only [← EReal.coe_mul]
      rw [← coe_sum, ← hSd, Finset.sum_div]
      congr 1
      refine Finset.sum_congr rfl fun d _ => ?_
      rw [hSd, div_mul_div_comm, Real.mul_self_sqrt hp.le]
    rw [e, max_sqrt _ (div_nonneg hS hp.le), div_coe_coe _ (max_tiny_pos _), Real.sqrt_div hS]
    congr 1
    have h' : Real.sqrt S = 0 ∨ tiny ≤ Real.sqrt S := by
      rcases h with h | h
      · exact .inl (by exact_mod_cast h)
      · exact .inr (by exact_mod_cast h)
    rcases h' with h | h
    · have hz : S = 0 := (Real.sqrt_eq_zero hS).mp h
      have hδ : δ d = 0 := by
        rw [hz] at hSd
        have := (Finset.sum_eq_zero_iff_of_nonneg (fun d _ => mul_self_nonneg (δ d))).mp hSd d (Finset.mem_univ d)
        exact mul_self_eq_zero.mp this
      rw [hδ, _root_.zero_div, _root_.zero_div, _root_.zero_div]
    · rw [max_eq_left (long_enough S hS h), max_eq_left h, div_div_div_cancel_right₀ hsp.ne']

/-! ## The gates -/

theorem logistic_real (z : EReal) : Ideal.logistic z = ((Ideal.logistic z).toReal : EReal) := by
  induction z with
  | bot => simp
  | top => simp
  | coe r => rw [Ideal.logistic_coe, EReal.toReal_coe]

theorem gate_coe (g m : EReal) : Ideal.logistic (Ideal.logistic g + m) = (gateR g m : EReal) := logistic_real _

end DeltaRule
end
-- ==== Proof.Stages.lean ====
/-
  What the kernel's body computes at one grid point, as a chain of named stages over the blocks it loads (the x rows
  `x`, the projection weights `w`, the gate offsets `md`, the carried state `m0`, the output weights `ow`), and the
  proof that the run's own found pieces are these stages. Nothing is computed here: every stage is the printed
  operations' own value, and the scratch buffers' read-backs stay the reads of the pieces the body stored.
-/
module

public import proofs.«01_k».proof.Proof.Gen.KernelIdeal.Frame
public import Idealize.ShloMosaic.Lib.Pipeline.Value

@[expose] public section
noncomputable section

namespace Cert.KernelIdeal.Stages

open Cert.KernelIdeal Cert.KernelIdeal.Gen
open Idealize.ShloMosaic Idealize.ShloMosaic.TcCoe Idealize.ShloMosaic.Tactic

variable {F : FTy → Type} [FloatOps F]

/-- Lane numbers of the 64×64 group mask. -/
abbrev lane64 : IVec S64x64 32 := iota .tc S64x64 32 [1] iota_S64x64_d1_w32
/-- Row numbers of the eight gate rows. -/
abbrev row8 : IVec S8x1 32 := iota .tc S8x1 32 [0] iota_S8x1_d0_w32
/-- Row and column numbers of a 128×128 chunk matrix. -/
abbrev rowI : IVec S128x128 32 := iota .tc S128x128 32 [0] iota_S128x128_d0_w32
abbrev colI : IVec S128x128 32 := iota .tc S128x128 32 [1] iota_S128x128_d1_w32

section Front
variable (x : Vec F S16x128x256 .f32) (w : Vec F S200x256 .f32) (md : Vec F S1x8x2048 .f32)

/-- Normalised queries, one row per (head, component), one column per (sequence, step). -/
def qn : FVec F S64x2048 .f32 := k0_pay12 (k0_pay5 x w) lane64 k0_pay9 16#32 k0_pay10
/-- Normalised keys. -/
def kn : FVec F S64x2048 .f32 := k0_pay13 (k0_pay6 x w) lane64 k0_pay9 16#32 k0_pay10
/-- Keys times the decay gate. -/
def ka : FVec F S64x2048 .f32 := k0_pay15 (k0_pay8 x w) (kn x w) row8 md
/-- Values times the write gate. -/
def vb : FVec F S64x2048 .f32 := k0_pay16 (k0_pay7 x w) (k0_pay8 x w) row8 md
/-- The same four, stacked with one batch per (sequence, head). -/
def ktn : FVec F S64x16x128 .f32 := k0_pay17 (kn x w)
def qtn : FVec F S64x16x128 .f32 := k0_pay33 (qn x w)
def stackA (y : FVec F S64x2048 .f32) : FVec F S64x16x128 .f32 :=
  k0_pay32 y (k0_pay18 y) (k0_pay19 y) (k0_pay20 y) (k0_pay21 y) (k0_pay22 y) (k0_pay23 y) (k0_pay24 y) (k0_pay25 y) (k0_pay26 y) (k0_pay27 y) (k0_pay28 y) (k0_pay29 y) (k0_pay30 y) (k0_pay31 y)
def kan : FVec F S64x16x128 .f32 := stackA (ka x w md)
end Front

section Solve
variable (kt ka qt : FVec F S64x16x128 .f32) (y : FVec F S64x2048 .f32) (m0 : Vec F S64x16x16 .f32)

/-- The right-hand side of the chunk's triangular system. -/
def rhs : FVec F S64x16x128 .f32 :=
  k0_pay50 y ka qt (k0_pay34 y) (k0_pay35 y) (k0_pay36 y) (k0_pay37 y) (k0_pay38 y) (k0_pay39 y) (k0_pay40 y) (k0_pay41 y) (k0_pay42 y) (k0_pay43 y) (k0_pay44 y) m0
/-- The inverses of its four 32×32 diagonal blocks. -/
def inv : FVec F S256x32x32 .f32 :=
  k0_pay58 k0_pay52 (k0_pay53 kt ka qt) (k0_pay54 kt ka qt) (k0_pay55 kt ka qt) (k0_pay56 kt ka qt) k0_pay57

variable (v : View sig .tc .vmem S64x16x128 .f32)

/-- The pieces of the solution after one, two, three, four block solves, last first; each solve reads back the
    columns solved before it. -/
def us1 : List (View.Piece (Elt F) S64x16x128 .f32) :=
  [⟨Rect.unit ![0, 0, 0] S64x16x32.size inb_S64x16x128_S64x16x32_0_0_0,
    k0_pay59 (rhs ka qt y m0) k0_pay52 (k0_pay53 kt ka qt) (k0_pay54 kt ka qt) (k0_pay55 kt ka qt) (k0_pay56 kt ka qt) k0_pay57⟩]
def us2 : List (View.Piece (Elt F) S64x16x128 .f32) :=
  ⟨Rect.unit ![0, 0, 32] S64x16x32.size inb_S64x16x128_S64x16x32_0_0_32,
    k0_pay60 (k0_pay49 kt ka qt) (rhs ka qt y m0) k0_pay52 (k0_pay53 kt ka qt) (k0_pay54 kt ka qt) (k0_pay55 kt ka qt)
      (k0_pay56 kt ka qt) k0_pay57
      (v.readCov (us1 kt ka qt y m0) (Rect.unit ![0, 0, 0] S64x16x32.size inb_S64x16x128_S64x16x32_0_0_0 : Rect S64x16x128).toLoadRect)⟩
    :: us1 kt ka qt y m0
def us3 : List (View.Piece (Elt F) S64x16x128 .f32) :=
  ⟨Rect.unit ![0, 0, 64] S64x16x32.size inb_S64x16x128_S64x16x32_0_0_64,
    k0_pay62 (k0_pay61 (k0_pay49 kt ka qt) (rhs ka qt y m0) k0_pay52 (k0_pay53 kt ka qt) (k0_pay54 kt ka qt) (k0_pay55 kt ka qt)
      (k0_pay56 kt ka qt) k0_pay57
      (v.readCov (us2 kt ka qt y m0 v) (Rect.unit ![0, 0, 0] S64x16x64.size inb_S64x16x128_S64x16x64_0_0_0 : Rect S64x16x128).toLoadRect))⟩
    :: us2 kt ka qt y m0 v
def us4 : List (View.Piece (Elt F) S64x16x128 .f32) :=
  ⟨Rect.unit ![0, 0, 96] S64x16x32.size inb_S64x16x128_S64x16x32_0_0_96,
    k0_pay63 (k0_pay49 kt ka qt) (rhs ka qt y m0) (inv kt ka qt)
      (v.readCov (us3 kt ka qt y m0 v) (Rect.unit ![0, 0, 0] S64x16x96.size inb_S64x16x128_S64x16x96_0_0_0 : Rect S64x16x128).toLoadRect)⟩
    :: us3 kt ka qt y m0 v
/-- The whole solution, read back. -/
def uAll : Vec F S64x16x128 .f32 :=
  v.readCov (us4 kt ka qt y m0 v) (Rect.unit ![0, 0, 0] S64x16x128.size inb_S64x16x128_S64x16x128_0_0_0 : Rect S64x16x128).toLoadRect
end Solve

section Outputs
variable (g : FVec F S64x128x128 .f32) (mq : FVec F S64x16x256 .f32) (u : Vec F S64x16x128 .f32)
variable (v : View sig .tc .vmem S64x2048 .f32)

/-- The chunk's outputs, stored one sequence at a time and read back as one 64×2048 matrix. -/
def os : List (View.Piece (Elt F) S64x2048 .f32) :=
  [⟨Rect.unit ![0, 1920] S64x128.size inb_S64x2048_S64x128_0_1920, k0_pay83 (k0_pay64 g mq rowI colI u)⟩,
    ⟨Rect.unit ![0, 1792] S64x128.size inb_S64x2048_S64x128_0_1792, k0_pay82 (k0_pay64 g mq rowI colI u)⟩,
    ⟨Rect.unit ![0, 1664] S64x128.size inb_S64x2048_S64x128_0_1664, k0_pay81 (k0_pay64 g mq rowI colI u)⟩,
    ⟨Rect.unit ![0, 1536] S64x128.size inb_S64x2048_S64x128_0_1536, k0_pay80 (k0_pay64 g mq rowI colI u)⟩,
    ⟨Rect.unit ![0, 1408] S64x128.size inb_S64x2048_S64x128_0_1408, k0_pay79 (k0_pay64 g mq rowI colI u)⟩,
    ⟨Rect.unit ![0, 1280] S64x128.size inb_S64x2048_S64x128_0_1280, k0_pay78 (k0_pay64 g mq rowI colI u)⟩,
    ⟨Rect.unit ![0, 1152] S64x128.size inb_S64x2048_S64x128_0_1152, k0_pay77 (k0_pay64 g mq rowI colI u)⟩,
    ⟨Rect.unit ![0, 1024] S64x128.size inb_S64x2048_S64x128_0_1024, k0_pay76 (k0_pay75 (k0_pay64 g mq rowI colI u))⟩,
    ⟨Rect.unit ![0, 896] S64x128.size inb_S64x2048_S64x128_0_896, k0_pay74 (k0_pay64 g mq rowI colI u)⟩,
    ⟨Rect.unit ![0, 768] S64x128.size inb_S64x2048_S64x128_0_768, k0_pay73 (k0_pay64 g mq rowI colI u)⟩,
    ⟨Rect.unit ![0, 640] S64x128.size inb_S64x2048_S64x128_0_640, k0_pay72 (k0_pay64 g mq rowI colI u)⟩,
    ⟨Rect.unit ![0, 512] S64x128.size inb_S64x2048_S64x128_0_512, k0_pay71 (k0_pay64 g mq rowI colI u)⟩,
    ⟨Rect.unit ![0, 384] S64x128.size inb_S64x2048_S64x128_0_384, k0_pay70 (k0_pay64 g mq rowI colI u)⟩,
    ⟨Rect.unit ![0, 256] S64x128.size inb_S64x2048_S64x128_0_256, k0_pay69 (k0_pay64 g mq rowI colI u)⟩,
    ⟨Rect.unit ![0, 128] S64x128.size inb_S64x2048_S64x128_0_128, k0_pay68 (k0_pay67 g mq rowI colI u)⟩,
    ⟨Rect.unit ![0, 0] S64x128.size inb_S64x2048_S64x128_0_0, k0_pay66 g mq rowI colI u⟩]
def oAll : Vec F S64x2048 .f32 :=
  v.readCov (os g mq u) (Rect.unit ![0, 0] S64x2048.size inb_S64x2048_S64x2048_0_0 : Rect S64x2048).toLoadRect
/-- The output block's pieces: one per sequence, the projected outputs. -/
def outs (ow : Vec F S192x64 .f32) (os : Vec F S64x2048 .f32) : List (View.Piece (Elt F) S16x192x128 .f32) :=
  [⟨Rect.unit ![15, 0, 0] S1x192x128.size inb_S16x192x128_S1x192x128_15_0_0, k0_pay2 (k0_pay84 ow os)⟩,
    ⟨Rect.unit ![14, 0, 0] S1x192x128.size inb_S16x192x128_S1x192x128_14_0_0, k0_pay1 (k0_pay100 (k0_pay84 ow os))⟩,
    ⟨Rect.unit ![13, 0, 0] S1x192x128.size inb_S16x192x128_S1x192x128_13_0_0, k0_pay99 (k0_pay84 ow os)⟩,
    ⟨Rect.unit ![12, 0, 0] S1x192x128.size inb_S16x192x128_S1x192x128_12_0_0, k0_pay98 (k0_pay84 ow os)⟩,
    ⟨Rect.unit ![11, 0, 0] S1x192x128.size inb_S16x192x128_S1x192x128_11_0_0, k0_pay97 (k0_pay84 ow os)⟩,
    ⟨Rect.unit ![10, 0, 0] S1x192x128.size inb_S16x192x128_S1x192x128_10_0_0, k0_pay96 (k0_pay84 ow os)⟩,
    ⟨Rect.unit ![9, 0, 0] S1x192x128.size inb_S16x192x128_S1x192x128_9_0_0, k0_pay95 (k0_pay84 ow os)⟩,
    ⟨Rect.unit ![8, 0, 0] S1x192x128.size inb_S16x192x128_S1x192x128_8_0_0, k0_pay94 (k0_pay84 ow os)⟩,
    ⟨Rect.unit ![7, 0, 0] S1x192x128.size inb_S16x192x128_S1x192x128_7_0_0, k0_pay93 (k0_pay84 ow os)⟩,
    ⟨Rect.unit ![6, 0, 0] S1x192x128.size inb_S16x192x128_S1x192x128_6_0_0, k0_pay92 (k0_pay91 ow os)⟩,
    ⟨Rect.unit ![5, 0, 0] S1x192x128.size inb_S16x192x128_S1x192x128_5_0_0, k0_pay90 ow os⟩,
    ⟨Rect.unit ![4, 0, 0] S1x192x128.size inb_S16x192x128_S1x192x128_4_0_0, k0_pay89 ow os⟩,
    ⟨Rect.unit ![3, 0, 0] S1x192x128.size inb_S16x192x128_S1x192x128_3_0_0, k0_pay88 ow os⟩,
    ⟨Rect.unit ![2, 0, 0] S1x192x128.size inb_S16x192x128_S1x192x128_2_0_0, k0_pay87 ow os⟩,
    ⟨Rect.unit ![1, 0, 0] S1x192x128.size inb_S16x192x128_S1x192x128_1_0_0, k0_pay86 ow os⟩,
    ⟨Rect.unit ![0, 0, 0] S1x192x128.size inb_S16x192x128_S1x192x128_0_0_0, k0_pay85 ow os⟩]
end Outputs

section Body
variable (x : Vec F S16x128x256 .f32) (w : Vec F S200x256 .f32) (md : Vec F S1x8x2048 .f32) (ow : Vec F S192x64 .f32)
  (m0 : Vec F S64x16x16 .f32) (v8 : View sig .tc .vmem S64x2048 .f32) (v9 : View sig .tc .vmem S64x16x128 .f32)

/-- The solution of the point's chunk. -/
def u : Vec F S64x16x128 .f32 := uAll (ktn x w) (kan x w md) (qtn x w) (vb x w md) m0 v9
/-- The state the point leaves. -/
def mNew : FVec F S64x16x16 .f32 := k0_pay65 (ktn x w) m0 (u x w md m0 v9)
/-- The chunk's outputs before the output projection. -/
def o : Vec F S64x2048 .f32 :=
  oAll (k0_pay47 (ktn x w) (kan x w md) (qtn x w)) (k0_pay48 (kan x w md) (qtn x w) m0) (u x w md m0 v9) v8
/-- The pieces of the output block. -/
def outPieces : List (View.Piece (Elt F) S16x192x128 .f32) := outs ow (o x w md m0 v8 v9)
end Body

/-- The loads of the four input blocks and of the carried state through their whole buffers. -/
theorem hz3 : (![0, 0, 0] : Fin 3 → Nat) = fun _ => 0 := funext fun a => by fin_cases a <;> rfl
theorem hz2 : (![0, 0] : Fin 2 → Nat) = fun _ => 0 := funext fun a => by fin_cases a <;> rfl

section Found
variable (c : Dev nD) (i : grid0.Coords) (a2 : Memref sig .tc .vmem S16x128x256 .f32) (h2 : a2.IsWhole)
  (a3 : Memref sig .tc .vmem S200x256 .f32) (h3 : a3.IsWhole) (a4 : Memref sig .tc .vmem S1x8x2048 .f32) (h4 : a4.IsWhole)
  (a5 : Memref sig .tc .vmem S192x64 .f32) (h5 : a5.IsWhole) (a6 : Memref sig .tc .vmem S16x192x128 .f32) (h6 : a6.IsWhole)
  (a7 : Memref sig .tc .vmem S64x16x16 .f32) (h7 : a7.IsWhole) (a8 : Memref sig .tc .vmem S64x2048 .f32) (h8 : a8.IsWhole)
  (a9 : Memref sig .tc .vmem S64x16x128 .f32) (h9 : a9.IsWhole)
  (x0 : Vec F S16x128x256 .f32) (x1 : Vec F S200x256 .f32) (x2 : Vec F S1x8x2048 .f32) (x3 : Vec F S192x64 .f32)

/-- A later point leaves in the carried scratch the state stage over the state it found. -/
theorem sout_B (hc : ¬cond0_0 i) (xs : Vec F S64x16x16 .f32) :
    sout0_B_0 c i a2 h2 a3 h3 a4 h4 a5 h5 a6 h6 a7 h7 a8 h8 a9 h9 hc x0 x1 x2 x3 xs = mNew x0 x1 x2 xs a9.view := by
  unfold sout0_B_0
  rw [View.read_writes_eq_canon _ _ _ (scover0_B_0 c i a2 h2 a3 h3 a4 h4 a5 h5 a6 h6 a7 h7 a8 h8 a9 h9 hc x0 x1 x2 x3 xs)]
  unfold kernelRun0_B
  dsimp only
  rw [View.canon_unit_zero hz3]
  refine Eq.trans (b := mNew (a2.view.readAt (Elt F) (Rect.unit ![0, 0, 0] S16x128x256.size inb_S16x128x256_S16x128x256_0_0_0 : Rect S16x128x256).toLoadRect (h2.unread x0))
    (a3.view.readAt (Elt F) (Rect.unit ![0, 0] S200x256.size inb_S200x256_S200x256_0_0 : Rect S200x256).toLoadRect (h3.unread x1))
    (a4.view.readAt (Elt F) (Rect.unit ![0, 0, 0] S1x8x2048.size inb_S1x8x2048_S1x8x2048_0_0_0 : Rect S1x8x2048).toLoadRect (h4.unread x2))
    (a7.view.readAt (Elt F) (Rect.unit ![0, 0, 0] S64x16x16.size inb_S64x16x16_S64x16x16_0_0_0 : Rect S64x16x16).toLoadRect (h7.unread xs)) a9.view) rfl ?_
  simp only [View.readAt_eq_ld, h2.read_unread, h3.read_unread, h4.read_unread, h7.read_unread,
    View.ld_unit_zero (S := S16x128x256) hz3, View.ld_unit_zero (S := S200x256) hz2, View.ld_unit_zero (S := S1x8x2048) hz3,
    View.ld_unit_zero (S := S64x16x16) hz3]

/-- and in the output block the output pieces' contents. -/
theorem out_B (hc : ¬cond0_0 i) (xs : Vec F S64x16x16 .f32) :
    out0_B_4 c i a2 h2 a3 h3 a4 h4 a5 h5 a6 h6 a7 h7 a8 h8 a9 h9 hc x0 x1 x2 x3 xs
      = View.canon (outPieces x0 x1 x2 x3 xs a8.view a9.view) := by
  unfold out0_B_4
  rw [View.read_writes_eq_canon _ _ _ (cover0_B_4 c i a2 h2 a3 h3 a4 h4 a5 h5 a6 h6 a7 h7 a8 h8 a9 h9 hc x0 x1 x2 x3 xs)]
  unfold kernelRun0_B
  dsimp only
  refine Eq.trans (b := View.canon (outPieces (a2.view.readAt (Elt F) (Rect.unit ![0, 0, 0] S16x128x256.size inb_S16x128x256_S16x128x256_0_0_0 : Rect S16x128x256).toLoadRect (h2.unread x0))
    (a3.view.readAt (Elt F) (Rect.unit ![0, 0] S200x256.size inb_S200x256_S200x256_0_0 : Rect S200x256).toLoadRect (h3.unread x1))
    (a4.view.readAt (Elt F) (Rect.unit ![0, 0, 0] S1x8x2048.size inb_S1x8x2048_S1x8x2048_0_0_0 : Rect S1x8x2048).toLoadRect (h4.unread x2))
    (a5.view.readAt (Elt F) (Rect.unit ![0, 0] S192x64.size inb_S192x64_S192x64_0_0 : Rect S192x64).toLoadRect (h5.unread x3))
    (a7.view.readAt (Elt F) (Rect.unit ![0, 0, 0] S64x16x16.size inb_S64x16x16_S64x16x16_0_0_0 : Rect S64x16x16).toLoadRect (h7.unread xs)) a8.view a9.view)) rfl ?_
  simp only [View.readAt_eq_ld, h2.read_unread, h3.read_unread, h4.read_unread, h5.read_unread, h7.read_unread,
    View.ld_unit_zero (S := S16x128x256) hz3, View.ld_unit_zero (S := S200x256) hz2, View.ld_unit_zero (S := S1x8x2048) hz3,
    View.ld_unit_zero (S := S192x64) hz2, View.ld_unit_zero (S := S64x16x16) hz3]

end Found
end Cert.KernelIdeal.Stages
end
-- ==== Proof.StagesFirst.lean ====
/-
  The same two facts at a sequence's first point, where the body first stores the zero state and reads it back.
-/
module

public import proofs.«01_k».proof.Proof.Stages

@[expose] public section
noncomputable section

namespace Cert.KernelIdeal.Stages

open Cert.KernelIdeal Cert.KernelIdeal.Gen
open Idealize.ShloMosaic Idealize.ShloMosaic.TcCoe Idealize.ShloMosaic.Tactic

variable {F : FTy → Type} [FloatOps F]

section Found
variable (c : Dev nD) (i : grid0.Coords) (a2 : Memref sig .tc .vmem S16x128x256 .f32) (h2 : a2.IsWhole)
  (a3 : Memref sig .tc .vmem S200x256 .f32) (h3 : a3.IsWhole) (a4 : Memref sig .tc .vmem S1x8x2048 .f32) (h4 : a4.IsWhole)
  (a5 : Memref sig .tc .vmem S192x64 .f32) (h5 : a5.IsWhole) (a6 : Memref sig .tc .vmem S16x192x128 .f32) (h6 : a6.IsWhole)
  (a7 : Memref sig .tc .vmem S64x16x16 .f32) (h7 : a7.IsWhole) (a8 : Memref sig .tc .vmem S64x2048 .f32) (h8 : a8.IsWhole)
  (a9 : Memref sig .tc .vmem S64x16x128 .f32) (h9 : a9.IsWhole)
  (x0 : Vec F S16x128x256 .f32) (x1 : Vec F S200x256 .f32) (x2 : Vec F S1x8x2048 .f32) (x3 : Vec F S192x64 .f32)

/-- A sequence's first point leaves the state stage over the zero state; -/
theorem sout_A (hc : cond0_0 i) :
    sout0_A_0 c i a2 h2 a3 h3 a4 h4 a5 h5 a6 h6 a7 h7 a8 h8 a9 h9 hc x0 x1 x2 x3 = mNew x0 x1 x2 k0_pay3 a9.view := by
  unfold sout0_A_0
  rw [View.read_writes_eq_canon _ _ _ (scover0_A_0 c i a2 h2 a3 h3 a4 h4 a5 h5 a6 h6 a7 h7 a8 h8 a9 h9 hc x0 x1 x2 x3)]
  unfold kernelRun0_A
  dsimp only
  sl_unfold_words
  rw [View.canon_cons_unit_zero hz3]
  rw [View.readCov_unit_zero (S := S64x16x16) _ hz3]
  refine Eq.trans (b := mNew (a2.view.readAt (Elt F) (Rect.unit ![0, 0, 0] S16x128x256.size inb_S16x128x256_S16x128x256_0_0_0 : Rect S16x128x256).toLoadRect (h2.unread x0))
    (a3.view.readAt (Elt F) (Rect.unit ![0, 0] S200x256.size inb_S200x256_S200x256_0_0 : Rect S200x256).toLoadRect (h3.unread x1))
    (a4.view.readAt (Elt F) (Rect.unit ![0, 0, 0] S1x8x2048.size inb_S1x8x2048_S1x8x2048_0_0_0 : Rect S1x8x2048).toLoadRect (h4.unread x2)) k0_pay3 a9.view) rfl ?_
  simp only [View.readAt_eq_ld, h2.read_unread, h3.read_unread, h4.read_unread,
    View.ld_unit_zero (S := S16x128x256) hz3, View.ld_unit_zero (S := S200x256) hz2, View.ld_unit_zero (S := S1x8x2048) hz3]

set_option maxHeartbeats 4000000 in
/-- and the output pieces over the zero state. -/
theorem out_A (hc : cond0_0 i) :
    out0_A_4 c i a2 h2 a3 h3 a4 h4 a5 h5 a6 h6 a7 h7 a8 h8 a9 h9 hc x0 x1 x2 x3
      = View.canon (outPieces x0 x1 x2 x3 k0_pay3 a8.view a9.view) := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.readCov_unit_zero (S := S64x16x16) _ hz3]
  refine Eq.trans (b := View.canon (outPieces (a2.view.readAt (Elt F) (Rect.unit ![0, 0, 0] S16x128x256.size inb_S16x128x256_S16x128x256_0_0_0 : Rect S16x128x256).toLoadRect (h2.unread x0))
    (a3.view.readAt (Elt F) (Rect.unit ![0, 0] S200x256.size inb_S200x256_S200x256_0_0 : Rect S200x256).toLoadRect (h3.unread x1))
    (a4.view.readAt (Elt F) (Rect.unit ![0, 0, 0] S1x8x2048.size inb_S1x8x2048_S1x8x2048_0_0_0 : Rect S1x8x2048).toLoadRect (h4.unread x2))
    (a5.view.readAt (Elt F) (Rect.unit ![0, 0] S192x64.size inb_S192x64_S192x64_0_0 : Rect S192x64).toLoadRect (h5.unread x3)) k0_pay3 a8.view a9.view)) rfl ?_
  simp only [View.readAt_eq_ld, h2.read_unread, h3.read_unread, h4.read_unread, h5.read_unread,
    View.ld_unit_zero (S := S16x128x256) hz3, View.ld_unit_zero (S := S200x256) hz2, View.ld_unit_zero (S := S1x8x2048) hz3,
    View.ld_unit_zero (S := S192x64) hz2]

end Found
end Cert.KernelIdeal.Stages
end
-- ==== Proof.Front.lean ====
/-
  The projections, the normalised queries and keys and the gated keys and values of one grid point, read at an index.
-/
module

public import proofs.«01_k».proof.Proof.Norm
public import proofs.«01_k».proof.Proof.StagesFirst
public import Idealize.ShloMosaic.Lib.Pointwise

@[expose] public section
set_option maxRecDepth 16384
noncomputable section

namespace Cert.KernelIdeal.Front

open Cert.KernelIdeal Cert.KernelIdeal.Gen Cert.KernelIdeal.Stages
open Idealize.ShloMosaic Idealize.ShloMosaic.TcCoe Idealize.ShloMosaic.Tactic
open DeltaRule

/-- Row `(head, component)` of the 64 rows. -/
def row (h : Fin 4) (d : Fin 16) : Fin 64 := ⟨16 * h + d, by omega⟩
/-- Column `(sequence, step)` of the 2048 columns. -/
def col (n : Fin 16) (c : Fin 128) : Fin 2048 := ⟨128 * n + c, by omega⟩

/-- Gate row `(kind, head)` of the eight. -/
def grow (p : Fin 2) (h : Fin 4) : Fin 8 := ⟨4 * p + h, by omega⟩

theorem sum_rows (f : Fin 64 → EReal) : ∑ s, f s = ∑ h : Fin 4, ∑ d : Fin 16, f (row h d) := by
  rw [← (finProdFinEquiv (m := 4) (n := 16)).sum_comp f, Fintype.sum_prod_type]
  refine Finset.sum_congr rfl fun h _ => Finset.sum_congr rfl fun d _ => congrArg f (Fin.ext ?_)
  simp [finProdFinEquiv, row, Nat.add_comm]

/-- A number divided by 16 and rounded down, as the programs spell it. -/
theorem quot_lt : ∀ r : Fin 128,
    Scalar.select (IntOp.andi (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 r.val) 16#32) 0#32))
      (IntOp.subi (IntOp.divsi ArithUnit.vector (BitVec.ofNat 32 r.val) 16#32) 1#32)
      (IntOp.divsi ArithUnit.vector (BitVec.ofNat 32 r.val) 16#32) = BitVec.ofNat 32 (r.val / 16) := by
  decide +kernel

theorem eq_lt : ∀ a b : Fin 8, IntOp.cmpi CmpIPredicate.eq (BitVec.ofNat 32 a.val) (BitVec.ofNat 32 b.val)
    = if a.val = b.val then 1#1 else 0#1 := by decide +kernel

/-- The group mask: a sixteenth where row and column belong to one group of 16, nought elsewhere. -/
theorem mask_apply (r s : Fin 64) :
    k0_pay11 (F := Ideal) lane64 k0_pay9 16#32 k0_pay10 (ix2 r s)
      = if r.val / 16 = s.val / 16 then ((1 / 16 : ℝ) : EReal) else 0 := by
  pointwise [k0_pay11, k0_pay9, k0_pay10]
  have hr := quot_lt ⟨r.val, by omega⟩
  have hs := quot_lt ⟨s.val, by omega⟩
  dsimp only at hr hs
  rw [hr, hs]
  have e := eq_lt ⟨r.val / 16, by omega⟩ ⟨s.val / 16, by omega⟩
  dsimp only at e
  rw [e]
  split_ifs
  · exact ofBits_sixteenth
  · rfl

/-- The masked sum over the rows is a sixteenth of the sum over the row's own group. -/
theorem mask_sum (f : Fin 64 → EReal) (h : Fin 4) (d : Fin 16) :
    ∑ s, k0_pay11 (F := Ideal) lane64 k0_pay9 16#32 k0_pay10 (ix2 (row h d) s) * f s
      = ((1 / 16 : ℝ) : EReal) * ∑ d', f (row h d') := by
  rw [sum_rows]
  have hz : ∀ h' : Fin 4, ∑ d' : Fin 16, k0_pay11 (F := Ideal) lane64 k0_pay9 16#32 k0_pay10 (ix2 (row h d) (row h' d')) * f (row h' d')
      = if h' = h then ((1 / 16 : ℝ) : EReal) * ∑ d', f (row h d') else 0 := by
    intro h'
    have e : ∀ d', k0_pay11 (F := Ideal) lane64 k0_pay9 16#32 k0_pay10 (ix2 (row h d) (row h' d'))
        = if h' = h then ((1 / 16 : ℝ) : EReal) else 0 := by
      intro d'
      rw [mask_apply]
      refine if_congr ?_ rfl rfl
      simp only [row, Fin.ext_iff]
      omega
    simp only [e]
    split_ifs with hh
    · subst hh; rw [mul_sum_coe _ _ (by norm_num)]
    · simp only [zero_mul, Finset.sum_const_zero]
  simp only [hz, Finset.sum_ite_eq', Finset.mem_univ, if_true]

variable (x : Vec Ideal S16x128x256 .f32) (w : Vec Ideal S200x256 .f32) (md : Vec Ideal S1x8x2048 .f32)

/-- A projection of one step of one sequence. -/
def proj (r : Fin 200) (n : Fin 16) (c : Fin 128) : EReal := ∑ j : Fin 256, w (ix2 r j) * x (ix3 n c j)

theorem proj_apply (r : Fin 200) (n : Fin 16) (c : Fin 128) : k0_pay4 x w (ix2 r (col n c)) = proj x w r n c := by
  have e1 : (col n c).val / 128 = n.val := by simp only [col]; omega
  have e2 : (col n c).val % 128 = c.val := by simp only [col]; omega
  pointwise [k0_pay4]
  simp only [e1, e2]
  rfl

/-- Projection rows: the queries', the keys', the values', the gates'. -/
def qrow (h : Fin 4) (d : Fin 16) : Fin 200 := ⟨16 * h + d, by omega⟩
def krow (h : Fin 4) (d : Fin 16) : Fin 200 := ⟨64 + (16 * h + d), by omega⟩
def vrow (h : Fin 4) (d : Fin 16) : Fin 200 := ⟨128 + (16 * h + d), by omega⟩
def srow (p : Fin 2) (h : Fin 4) : Fin 200 := ⟨192 + (4 * p + h), by omega⟩

theorem q_apply (h : Fin 4) (d : Fin 16) (n : Fin 16) (c : Fin 128) :
    k0_pay5 x w (ix2 (row h d) (col n c)) = proj x w (qrow h d) n c := by
  rw [← proj_apply]; pointwise [k0_pay5]
  exact congrArg (fun r => k0_pay4 x w (ix2 r (col n c))) (Fin.ext (by simp [row, qrow]))

theorem k_apply (h : Fin 4) (d : Fin 16) (n : Fin 16) (c : Fin 128) :
    k0_pay6 x w (ix2 (row h d) (col n c)) = proj x w (krow h d) n c := by
  rw [← proj_apply]; pointwise [k0_pay6]
  exact congrArg (fun r => k0_pay4 x w (ix2 r (col n c))) (Fin.ext (by simp [row, krow] <;> omega))

theorem v_apply (h : Fin 4) (d : Fin 16) (n : Fin 16) (c : Fin 128) :
    k0_pay7 x w (ix2 (row h d) (col n c)) = proj x w (vrow h d) n c := by
  rw [← proj_apply]; pointwise [k0_pay7]
  exact congrArg (fun r => k0_pay4 x w (ix2 r (col n c))) (Fin.ext (by simp [row, vrow] <;> omega))

theorem s_apply (p : Fin 2) (h : Fin 4) (n : Fin 16) (c : Fin 128) :
    k0_pay8 x w (ix2 (grow p h) (col n c)) = proj x w (srow p h) n c := by
  rw [← proj_apply]; pointwise [k0_pay8]
  exact congrArg (fun r => k0_pay4 x w (ix2 r (col n c))) (Fin.ext (by simp [grow, srow] <;> omega))

/-- A query is its group scaled to unit variance. -/
theorem qn_apply (h : Fin 4) (d : Fin 16) (n : Fin 16) (c : Fin 128) :
    qn x w (ix2 (row h d) (col n c)) = (lnR (fun d' => proj x w (qrow h d') n c) d : EReal) := by
  rw [← lnE_coe]
  pointwise [qn, k0_pay12]
  simp only [mask_sum, q_apply, ofBits_eps]
  rfl

theorem sixteenth_mul (S : EReal) : ((1 / 16 : ℝ) : EReal) * S * ((16 : ℝ) : EReal) = S := by
  rw [mul_comm, ← mul_assoc, ← EReal.coe_mul]; norm_num

/-- A key is its group scaled to unit length. -/
theorem kn_apply (h : Fin 4) (d : Fin 16) (n : Fin 16) (c : Fin 128) :
    kn x w (ix2 (row h d) (col n c)) = (unR (fun d' => proj x w (krow h d') n c) d : EReal) := by
  rw [← unE_coe]
  pointwise [kn, k0_pay13]
  simp only [mask_sum, k_apply, ofBits_tiny, ofBits_sixteen, sixteenth_mul]
  rfl

/-- The bias of a gate row, by kind. -/
def bias (p : Fin 2) : EReal := if p.val = 0 then Ideal.ofBits .f32 0x3F000000#32 else Ideal.ofBits .f32 0xBF800000#32

theorem sel_lt : ∀ s : Fin 8, IntOp.cmpi CmpIPredicate.slt (BitVec.ofNat 32 s.val) 4#32 = if s.val < 4 then 1#1 else 0#1 := by
  decide +kernel

/-- The gate rows, spread over the heads' components. -/
theorem gates_apply (z : FVec Ideal S8x2048 .f32) (r : Fin 128) (p : Fin 2) (h : Fin 4) (hr : r.val / 16 = 4 * p.val + h.val)
    (j : Fin 2048) :
    k0_pay14 z row8 md (ix2 r j) = (gateR (z (ix2 (grow p h) j) + bias p) (md (ix3 0 (grow p h) j)) : EReal) := by
  rw [← gate_coe]
  pointwise [k0_pay14]
  have hq := quot_lt r
  rw [hq]
  have e : ∀ s : Fin 8, IntOp.cmpi CmpIPredicate.eq (BitVec.ofNat 32 (r.val / 16)) (BitVec.ofNat 32 s.val)
      = if s = grow p h then 1#1 else 0#1 := by
    intro s
    have := eq_lt ⟨r.val / 16, by omega⟩ s
    dsimp only at this
    rw [this]
    refine if_congr ?_ rfl rfl
    simp only [grow, Fin.ext_iff]; omega
  simp only [e]
  rw [Finset.sum_eq_single (grow p h)]
  · rw [if_pos rfl, sel_lt]
    have h1 : FloatOps.sitofp (F := Ideal) FTy.f32 (BitVec.setWidth 32 1#1) = (1 : EReal) := by
      change (((BitVec.setWidth 32 1#1).toInt : ℝ) : EReal) = 1
      norm_num
    rw [h1, one_mul]
    congr 3
    have hb : (grow p h).val < 4 ↔ p.val = 0 := by simp only [grow]; omega
    unfold bias
    by_cases hp : p.val = 0
    · rw [if_pos (hb.mpr hp), if_pos hp]; rfl
    · rw [if_neg (fun c => hp (hb.mp c)), if_neg hp]; rfl
  · intro s _ hs
    rw [if_neg hs]
    have h0 : FloatOps.sitofp (F := Ideal) FTy.f32 (BitVec.setWidth 32 0#1) = (0 : EReal) := by
      change (((BitVec.setWidth 32 0#1).toInt : ℝ) : EReal) = 0
      norm_num
    rw [h0, zero_mul]
  · intro hn; exact absurd (Finset.mem_univ _) hn

/-- A gate of one step of one sequence and head, by kind: 0 writes, 1 forgets. -/
def gate (p : Fin 2) (h : Fin 4) (n : Fin 16) (c : Fin 128) : ℝ :=
  gateR (proj x w (srow p h) n c + bias p) (md (ix3 0 (grow p h) (col n c)))

/-- A key times the gate that forgets. -/
theorem ka_apply (h : Fin 4) (d : Fin 16) (n : Fin 16) (c : Fin 128) :
    ka x w md (ix2 (row h d) (col n c))
      = ((unR (fun d' => proj x w (krow h d') n c) d * gate x w md 1 h n c : ℝ) : EReal) := by
  pointwise [ka, k0_pay15]
  rw [kn_apply, gates_apply md (k0_pay8 x w) _ 1 h (by simp [row]; omega), s_apply, EReal.coe_mul]
  rfl

/-- A value times the gate that writes. -/
theorem vb_apply (h : Fin 4) (d : Fin 16) (n : Fin 16) (c : Fin 128) :
    vb x w md (ix2 (row h d) (col n c)) = proj x w (vrow h d) n c * (gate x w md 0 h n c : EReal) := by
  pointwise [vb, k0_pay16]
  rw [v_apply, gates_apply md (k0_pay8 x w) _ 0 h (by simp [row]; omega), s_apply]
  rfl

end Cert.KernelIdeal.Front
end
-- ==== Proof.Stack.lean ====
/-
  The stacked matrices of one grid point, read at an index: batch `(sequence, head)`, component, step.
-/
module

public import proofs.«01_k».proof.Proof.Front

@[expose] public section
set_option maxRecDepth 16384
noncomputable section

namespace Cert.KernelIdeal.Stack

open Cert.KernelIdeal Cert.KernelIdeal.Gen Cert.KernelIdeal.Stages Cert.KernelIdeal.Front
open Idealize.ShloMosaic Idealize.ShloMosaic.TcCoe Idealize.ShloMosaic.Tactic
open DeltaRule

/-- Batch `(sequence, head)` of the 64 batches. -/
def bat (n : Fin 16) (h : Fin 4) : Fin 64 := ⟨4 * n + h, by omega⟩

theorem slices_seq (n : Fin 16) : S64x2048.Slices ![0, 128 * n.val] S64x128 := by
  refine ⟨rfl, fun a => ?_⟩
  fin_cases a
  · show 0 + 64 ≤ 64; omega
  · show 128 * n.val + 128 ≤ 2048; omega

/-- One sequence's columns, with the heads cut apart. -/
def part (y : FVec Ideal S64x2048 .f32) (n : Fin 16) : FVec Ideal S4x16x128 .f32 :=
  shapeCast S4x16x128 (extractStridedSlice S64x128 ![0, 128 * n.val] y (slices_seq n)) shapeCasts_S64x128_S4x16x128

theorem part_apply (y : FVec Ideal S64x2048 .f32) (n : Fin 16) (h : Fin 4) (d : Fin 16) (c : Fin 128) :
    part y n (ix3 h d c) = y (ix2 (row h d) (col n c)) := by
  pointwise [part]
  exact congrArg₂ (fun a b => y (ix2 a b)) (Fin.ext (by simp [row] <;> omega)) (Fin.ext (by simp [col] <;> omega))

/-- The sixteen sequences, one after another along the batch axis. -/
def stacked (y : FVec Ideal S64x2048 .f32) : FVec Ideal S64x16x128 .f32 :=
  concatenate S64x16x128 0 (List.ofFn fun n : Fin 16 => (⟨S4x16x128, part y n⟩ : (s : Shape) × (s.Idx → EReal)))
    concatenates_S4x16x128_S4x16x128_S4x16x128_S4x16x128_S4x16x128_S4x16x128_S4x16x128_S4x16x128_S4x16x128_S4x16x128_S4x16x128_S4x16x128_S4x16x128_S4x16x128_S4x16x128_S4x16x128_S64x16x128_d0

theorem stacked_apply (y : FVec Ideal S64x2048 .f32) (n : Fin 16) (h : Fin 4) (d : Fin 16) (c : Fin 128) :
    stacked y (ix3 (bat n h) d c) = y (ix2 (row h d) (col n c)) := by
  rw [← part_apply y n h d c]
  unfold stacked
  refine concatenate_ofFn_apply (0 : Fin S64x16x128.rank) (part y) _ rfl 4 rfl (ix3 (bat n h) d c) n ?_ (ix3 h d c) ?_ ?_
  · show (4 * n.val + h.val) / 4 = n.val; omega
  · show h.val = (4 * n.val + h.val) % 4; omega
  · intro b hb
    fin_cases b
    · exact absurd rfl hb
    · rfl
    · rfl

theorem ktn_eq (y : FVec Ideal S64x2048 .f32) : k0_pay17 y = stacked y := rfl
theorem qtn_eq (y : FVec Ideal S64x2048 .f32) : k0_pay33 y = stacked y := rfl
theorem stackA_eq (y : FVec Ideal S64x2048 .f32) : stackA y = stacked y := rfl

end Cert.KernelIdeal.Stack
end
-- ==== Proof.Solve.lean ====
/-
  The chunk of one grid point, read at an index: where the stacked keys, values, queries, gates and the carried state
  are real numbers (`Lifted`), the kernel's triangular system, the inverses of its diagonal blocks, its solution block
  by block and the state it leaves are those of the delta rule's chunk.
-/
module

public import proofs.«01_k».proof.Proof.Stack

@[expose] public section
set_option maxRecDepth 16384
noncomputable section

namespace Cert.KernelIdeal.Solve

open Cert.KernelIdeal Cert.KernelIdeal.Gen Cert.KernelIdeal.Stages Cert.KernelIdeal.Front Cert.KernelIdeal.Stack
open Idealize.ShloMosaic Idealize.ShloMosaic.TcCoe Idealize.ShloMosaic.Tactic
open DeltaRule

variable (S : Fin 64 → Seq) (t0 : ℕ) (kt ka qt : FVec Ideal S64x16x128 .f32) (y : FVec Ideal S64x2048 .f32)
  (m0 : Vec Ideal S64x16x16 .f32)

/-- The point's inputs are those of the 64 sequences' and heads' delta rules from step `t0` on. -/
structure Lifted : Prop where
  hk : ∀ b d (c : Fin 128), kt (ix3 b d c) = ((S b).k (t0 + c) d : EReal)
  hka : ∀ b d (c : Fin 128), ka (ix3 b d c) = ((S b).k (t0 + c) d * (S b).a (t0 + c) : ℝ)
  hq : ∀ b d (c : Fin 128), qt (ix3 b d c) = ((S b).q (t0 + c) d : EReal)
  hy : ∀ b d (c : Fin 128), stacked y (ix3 b d c) = ((S b).v (t0 + c) d * (S b).b (t0 + c) : ℝ)
  hm : ∀ b i j, m0 (ix3 b i j) = ((S b).st t0 i j : EReal)

def lo (c : Fin 128) : Fin 256 := ⟨c, by omega⟩
def hi (c : Fin 128) : Fin 256 := ⟨128 + c, by omega⟩

theorem pair_lo (b : Fin 64) (d : Fin 16) (c : Fin 128) : k0_pay45 ka qt (ix3 b d (lo c)) = ka (ix3 b d c) := by
  pointwise [k0_pay45]
  rw [dif_pos (show (lo c).val < 128 from c.isLt)]
  rfl

theorem pair_hi (b : Fin 64) (d : Fin 16) (c : Fin 128) : k0_pay45 ka qt (ix3 b d (hi c)) = qt (ix3 b d c) := by
  pointwise [k0_pay45]
  rw [dif_neg (show ¬(hi c).val < 128 by simp [hi])]
  exact congrArg (fun e => qt (ix3 b d e)) (Fin.ext (by simp [hi]))

section
variable {S t0 kt ka qt y m0} (L : Lifted S t0 kt ka qt y m0)
include L

theorem gram_q (b : Fin 64) (s t : Fin 128) :
    k0_pay47 kt ka qt (ix3 b s t) = ((∑ d, (S b).k (t0 + s) d * (S b).q (t0 + t) d : ℝ) : EReal) := by
  have e : k0_pay47 kt ka qt (ix3 b s t) = k0_pay46 kt ka qt (ix3 b s (hi t)) := by
    pointwise [k0_pay47]; rfl
  rw [e]
  pointwise [k0_pay46]
  simp only [pair_hi, L.hk, L.hq, ← EReal.coe_mul, ← coe_sum]

theorem state_a (b : Fin 64) (i : Fin 16) (c : Fin 128) :
    k0_pay48 ka qt m0 (ix3 b i (lo c)) = ((∑ j, (S b).st t0 i j * ((S b).k (t0 + c) j * (S b).a (t0 + c)) : ℝ) : EReal) := by
  pointwise [k0_pay48]
  simp only [pair_lo, L.hm, L.hka, ← EReal.coe_mul, ← coe_sum]

theorem state_q (b : Fin 64) (i : Fin 16) (c : Fin 128) :
    k0_pay48 ka qt m0 (ix3 b i (hi c)) = ((∑ j, (S b).st t0 i j * (S b).q (t0 + c) j : ℝ) : EReal) := by
  pointwise [k0_pay48]
  simp only [pair_hi, L.hm, L.hq, ← EReal.coe_mul, ← coe_sum]

theorem rhs_apply (b : Fin 64) (i : Fin 16) (c : Fin 128) :
    rhs ka qt y m0 (ix3 b i c) = ((S b).rhs t0 i c : EReal) := by
  have e : rhs ka qt y m0 (ix3 b i c) = k0_pay48 ka qt m0 (ix3 b i (lo c)) - stacked y (ix3 b i c) := by
    have e1 : rhs ka qt y m0 = subf (extractStridedSlice S64x16x128 ![0, 0, 0] (k0_pay48 ka qt m0)
      slices_S64x16x256_o0_0_0_S64x16x128) (stacked y) := rfl
    rw [e1]
    pointwise
    rfl
  rw [e, state_a L, L.hy, ← EReal.coe_sub]
  rfl

end

theorem slt_lt : ∀ s t : Fin 128, IntOp.cmpi CmpIPredicate.slt (BitVec.ofNat 32 s.val) (BitVec.ofNat 32 t.val)
    = if s.val < t.val then 1#1 else 0#1 := by decide +kernel

theorem sle_le : ∀ s t : Fin 128, IntOp.cmpi CmpIPredicate.sle (BitVec.ofNat 32 s.val) (BitVec.ofNat 32 t.val)
    = if s.val ≤ t.val then 1#1 else 0#1 := by decide +kernel

section
variable {S t0 kt ka qt y m0} (L : Lifted S t0 kt ka qt y m0)
include L

theorem amat_apply (b : Fin 64) (s t : Fin 128) : k0_pay49 kt ka qt (ix3 b s t) = ((S b).amat t0 s t : EReal) := by
  have e : k0_pay46 kt ka qt (ix3 b s (lo t))
      = ((∑ d, (S b).k (t0 + s) d * ((S b).k (t0 + t) d * (S b).a (t0 + t)) : ℝ) : EReal) := by
    pointwise [k0_pay46]
    simp only [pair_lo, L.hk, L.hka, ← EReal.coe_mul, ← coe_sum]
  pointwise [k0_pay49]
  rw [slt_lt]
  unfold Seq.amat
  split_ifs
  · exact e
  · exact EReal.coe_zero.symm

/-- A diagonal block of the system, negated: block `p` of batch `b`. -/
def blkBat (p : Fin 4) (b : Fin 64) : Fin 256 := ⟨64 * p + b, by omega⟩
/-- Column `s` of block `p`. -/
def blkCol (p : Fin 4) (s : Fin 32) : Fin 128 := ⟨32 * p + s, by omega⟩

theorem nl_apply (p : Fin 4) (b : Fin 64) (s t : Fin 32) :
    k0_pay51 kt ka qt (ix3 (blkBat p b) s t) = ((0 - (S b).amat t0 (blkCol p s) (blkCol p t) : ℝ) : EReal) := by
  rw [EReal.coe_sub, ← amat_apply L]
  pointwise [k0_pay51]
  rw [EReal.coe_zero]
  congr 1
  have hc : ∀ (a a' : Fin 64) (s s' t t' : Fin 128), a.val = a'.val → s.val = s'.val → t.val = t'.val →
      k0_pay49 kt ka qt (ix3 a s t) = k0_pay49 kt ka qt (ix3 a' s' t') := by
    intro a a' s s' t t' h1 h2 h3
    rw [Fin.ext h1, Fin.ext h2, Fin.ext h3]
  have e : (blkBat p b).val = 64 * p.val + b.val := rfl
  have es : ∀ s, (blkCol p s).val = 32 * p.val + s.val := fun _ => rfl
  have hb := b.isLt
  fin_vals p with hp
  · rw [dif_pos (by omega)]
    refine hc _ _ _ _ _ _ ?_ ?_ ?_ <;> simp only [e, es] <;> omega
  · rw [dif_neg (by omega), dif_pos (by omega)]
    refine hc _ _ _ _ _ _ ?_ ?_ ?_ <;> simp only [e, es] <;> omega
  · rw [dif_neg (by omega), dif_neg (by omega), dif_pos (by omega)]
    refine hc _ _ _ _ _ _ ?_ ?_ ?_ <;> simp only [e, es] <;> omega
  · rw [dif_neg (by omega), dif_neg (by omega), dif_neg (by omega)]
    refine hc _ _ _ _ _ _ ?_ ?_ ?_ <;> simp only [e, es] <;> omega

end

theorem eq_lt32 : ∀ s t : Fin 32, IntOp.cmpi CmpIPredicate.eq (IntOp.addi (BitVec.ofNat 32 s.val) 0#32) (BitVec.ofNat 32 t.val)
    = if s = t then 1#1 else 0#1 := by decide +kernel

theorem eye_apply (s t : Fin 32) :
    k0_pay52 (F := Ideal) (ix3 0 s t) = (((1 : Matrix (Fin 32) (Fin 32) ℝ) s t : ℝ) : EReal) := by
  pointwise [k0_pay52]
  rw [eq_lt32, Matrix.one_apply]
  split_ifs
  · change (((BitVec.setWidth 32 1#1).toInt : ℝ) : EReal) = _
    norm_num
  · change (((BitVec.setWidth 32 0#1).toInt : ℝ) : EReal) = _
    norm_num

section
variable {kt ka qt : FVec Ideal S64x16x128 .f32} {B : Fin 256} {N : Matrix (Fin 32) (Fin 32) ℝ}
  (h : ∀ s t, k0_pay51 kt ka qt (ix3 B s t) = (N s t : EReal))
include h

theorem inv_apply (s t : Fin 32) : Stages.inv kt ka qt (ix3 B s t) = (prodInv N s t : EReal) := by
  have h2 : ∀ s t, k0_pay53 kt ka qt (ix3 B s t) = ((N * N) s t : EReal) := fun s t => by
    pointwise [k0_pay53]
    simp only [h, ← EReal.coe_mul, ← coe_sum, Matrix.mul_apply]
  have h4 : ∀ s t, k0_pay54 kt ka qt (ix3 B s t) = (((N * N) * (N * N)) s t : EReal) := fun s t => by
    pointwise [k0_pay54]
    simp only [h2, ← EReal.coe_mul, ← coe_sum]
    rw [Matrix.mul_apply]
  have h8 : ∀ s t, k0_pay55 kt ka qt (ix3 B s t) = (((N * N) * (N * N)) * ((N * N) * (N * N))) s t := fun s t => by
    pointwise [k0_pay55]
    simp only [h4, ← EReal.coe_mul, ← coe_sum]
    rw [Matrix.mul_apply]
  pointwise [Stages.inv, k0_pay58, k0_pay56, k0_pay57]
  generalize hN2 : N * N = N2 at *
  generalize hN4 : N2 * N2 = N4 at *
  generalize hN8 : N4 * N4 = N8 at *
  simp only [h, h2, h4, h8, eye_apply, ← EReal.coe_mul, ← EReal.coe_add, ← coe_sum]
  congr 1
  unfold prodInv
  rw [hN2, hN4, hN8]
  simp only [Matrix.mul_apply, Matrix.add_apply]
end

section
variable {S t0 kt ka qt y m0} (L : Lifted S t0 kt ka qt y m0)
include L

/-- A block of the solution, from the columns before it. -/
theorem solved (n m : ℕ) (hn : n + 32 + m = 128) (b : Fin 64) (i : Fin 16) (t : Fin 32) (B : Fin 256)
    (hB : ∀ s t : Fin 32, k0_pay51 kt ka qt (ix3 B s t)
      = ((0 - (S b).amat t0 ⟨n + s, by have := s.isLt; omega⟩ ⟨n + t, by have := t.isLt; omega⟩ : ℝ) : EReal)) :
    ∑ x : Fin 32, (rhs ka qt y m0 (ix3 b i ⟨n + x, by have := x.isLt; omega⟩)
        - ∑ r : Fin n, ((S b).upd (t0 + r) i : EReal)
          * k0_pay49 kt ka qt (ix3 b ⟨r, by have := r.isLt; omega⟩ ⟨n + x, by have := x.isLt; omega⟩))
      * Stages.inv kt ka qt (ix3 B x t) = ((S b).upd (t0 + (n + t)) i : EReal) := by
  simp only [inv_apply (N := fun s t => 0 - (S b).amat t0 ⟨n + s, by have := s.isLt; omega⟩ ⟨n + t, by have := t.isLt; omega⟩) hB,
    rhs_apply L, amat_apply L, ← EReal.coe_mul, ← coe_sum, ← EReal.coe_sub]
  exact congrArg _ (solve_block n m hn ((S b).amat t0) (fun s t hst => by unfold Seq.amat; rw [if_neg hst])
    (fun c => (S b).upd (t0 + c) i) ((S b).rhs t0 i) (fun c => (S b).upd_solves t0 i c) t)

theorem blk0 (b : Fin 64) (i : Fin 16) (t : Fin 32) :
    k0_pay59 (rhs ka qt y m0) k0_pay52 (k0_pay53 kt ka qt) (k0_pay54 kt ka qt) (k0_pay55 kt ka qt) (k0_pay56 kt ka qt) k0_pay57
      (ix3 b i t) = ((S b).upd (t0 + t.val) i : EReal) := by
  pointwise [k0_pay59]
  have e := solved L 0 96 rfl b i t (blkBat 0 b) (nl_apply L 0 b)
  simp only [Finset.univ_eq_empty, Finset.sum_empty, sub_zero, Nat.zero_add] at e
  rw [← e]
  refine Finset.sum_congr rfl fun x _ => congrArg _ ?_
  exact congrArg (fun B => Stages.inv kt ka qt (ix3 B x t)) (Fin.ext (by simp [blkBat]))

theorem blk1 (u : Vec Ideal S64x16x32 .f32) (hu : ∀ b i r, u (ix3 b i r) = ((S b).upd (t0 + r.val) i : EReal))
    (b : Fin 64) (i : Fin 16) (t : Fin 32) :
    k0_pay60 (k0_pay49 kt ka qt) (rhs ka qt y m0) k0_pay52 (k0_pay53 kt ka qt) (k0_pay54 kt ka qt) (k0_pay55 kt ka qt)
      (k0_pay56 kt ka qt) k0_pay57 u (ix3 b i t) = ((S b).upd (t0 + (32 + t.val)) i : EReal) := by
  pointwise [k0_pay60]
  simp only [hu]
  exact solved L 32 64 rfl b i t (blkBat 1 b) (nl_apply L 1 b)

theorem blk2 (u : Vec Ideal S64x16x64 .f32) (hu : ∀ b i r, u (ix3 b i r) = ((S b).upd (t0 + r.val) i : EReal))
    (b : Fin 64) (i : Fin 16) (t : Fin 32) :
    k0_pay62 (k0_pay61 (k0_pay49 kt ka qt) (rhs ka qt y m0) k0_pay52 (k0_pay53 kt ka qt) (k0_pay54 kt ka qt) (k0_pay55 kt ka qt)
      (k0_pay56 kt ka qt) k0_pay57 u) (ix3 b i t) = ((S b).upd (t0 + (64 + t.val)) i : EReal) := by
  pointwise [k0_pay61, k0_pay62]
  simp only [hu]
  exact solved L 64 32 rfl b i t (blkBat 2 b) (nl_apply L 2 b)

theorem blk3 (u : Vec Ideal S64x16x96 .f32) (hu : ∀ b i r, u (ix3 b i r) = ((S b).upd (t0 + r.val) i : EReal))
    (b : Fin 64) (i : Fin 16) (t : Fin 32) :
    k0_pay63 (k0_pay49 kt ka qt) (rhs ka qt y m0) (Stages.inv kt ka qt) u (ix3 b i t)
      = ((S b).upd (t0 + (96 + t.val)) i : EReal) := by
  pointwise [k0_pay63]
  simp only [hu]
  exact solved L 96 0 rfl b i t (blkBat 3 b) (nl_apply L 3 b)

end

/-- The solution of the chunks' systems. -/
def upds (S : Fin 64 → Seq) (t0 : ℕ) : S64x16x128.Idx → EReal := fun j => ((S (j 0)).upd (t0 + (j 2).val) (j 1) : EReal)

section
variable {S t0 kt ka qt y m0} (L : Lifted S t0 kt ka qt y m0) (v : View sig .tc .vmem S64x16x128 .f32)

/-- The first `n` columns of the pieces stored, read back, where every piece holds the solution's columns and the pieces
    cover what is read. -/
theorem read_pieces (P : List (View.Piece (Elt Ideal) S64x16x128 .f32))
    (hP : ∀ p ∈ P, ∀ x : p.1.shape.Idx, p.2 x = upds S t0 (p.1.emb x)) (B : LoadRect S64x16x128)
    (hc : ∀ j, ∃ p ∈ P, B.idx j ∈ p.1.set) : v.readCov P B = fun j => upds S t0 (B.idx j) := by
  rw [View.readCov_eq_canon']
  exact funext fun j => View.canon_apply_of_pieces _ P hP _ (hc j)

/-- The solution's columns under the rectangle that starts at column `o`. -/
theorem upds_at (o n : ℕ) (inb : ∀ a, (![0, 0, o] : Fin 3 → ℕ) a + (![64, 16, n] : Fin 3 → ℕ) a ≤ S64x16x128.size a)
    (b : Fin 64) (i : Fin 16) (r : Fin n) :
    upds S t0 ((Rect.unit (s := S64x16x128) ![0, 0, o] ![64, 16, n] inb).emb (ix3 b i r)) = ((S b).upd (t0 + (o + r.val)) i : EReal) := by
  have h0 : ((Rect.unit (s := S64x16x128) ![0, 0, o] ![64, 16, n] inb).emb (ix3 b i r)) 0 = b :=
    Fin.ext (show 0 + 1 * b.val = b.val by omega)
  have h1 : ((Rect.unit (s := S64x16x128) ![0, 0, o] ![64, 16, n] inb).emb (ix3 b i r)) 1 = i :=
    Fin.ext (show 0 + 1 * i.val = i.val by omega)
  have h2 : (((Rect.unit (s := S64x16x128) ![0, 0, o] ![64, 16, n] inb).emb (ix3 b i r)) 2).val = o + r.val :=
    show o + 1 * r.val = o + r.val by omega
  unfold upds
  rw [h0, h1, h2]

/-- An index under the rectangle of 32 columns that starts at `o`. -/
theorem mem_cols (o : ℕ) (inb : ∀ a, (![0, 0, o] : Fin 3 → ℕ) a + (![64, 16, 32] : Fin 3 → ℕ) a ≤ S64x16x128.size a)
    (j : S64x16x128.Idx) (h1 : o ≤ (j 2).val) (h2 : (j 2).val < o + 32) :
    j ∈ (Rect.unit (s := S64x16x128) ![0, 0, o] ![64, 16, 32] inb).set := by
  rw [Rect.mem_set_unit]
  intro a
  fin_cases a
  · exact ⟨Nat.zero_le _, by show (j 0).val < 0 + 64; have := (j 0).isLt; have e : S64x16x128.size 0 = 64 := rfl; omega⟩
  · exact ⟨Nat.zero_le _, by show (j 1).val < 0 + 16; have := (j 1).isLt; have e : S64x16x128.size 1 = 16 := rfl; omega⟩
  · exact ⟨h1, h2⟩

/-- The last coordinate of a read that starts at column 0. -/
theorem idx_last (n : ℕ) (inb : ∀ a, (![0, 0, 0] : Fin 3 → ℕ) a + (![64, 16, n] : Fin 3 → ℕ) a ≤ S64x16x128.size a)
    (j : (Rect.unit (s := S64x16x128) ![0, 0, 0] ![64, 16, n] inb).shape.Idx) :
    (((Rect.unit (s := S64x16x128) ![0, 0, 0] ![64, 16, n] inb).toLoadRect.idx j) 2).val < n := by
  have h : (j 2).val < n := (j 2).isLt
  show 0 + 1 * (j 2).val < n
  omega

/-- What is read of the first `n` columns. -/
theorem read_cols (n : ℕ) (inb : ∀ a, (![0, 0, 0] : Fin 3 → ℕ) a + (![64, 16, n] : Fin 3 → ℕ) a ≤ S64x16x128.size a)
    (P : List (View.Piece (Elt Ideal) S64x16x128 .f32))
    (hP : ∀ p ∈ P, ∀ x : p.1.shape.Idx, p.2 x = upds S t0 (p.1.emb x))
    (hc : ∀ j : S64x16x128.Idx, (j 2).val < n → ∃ p ∈ P, j ∈ p.1.set) (b : Fin 64) (i : Fin 16) (r : Fin n) :
    v.readCov P (Rect.unit (s := S64x16x128) ![0, 0, 0] ![64, 16, n] inb).toLoadRect (ix3 b i r)
      = ((S b).upd (t0 + r.val) i : EReal) := by
  rw [read_pieces v P hP _ fun j => hc _ (idx_last n inb j)]
  exact (upds_at 0 n inb b i r).trans (by rw [Nat.zero_add])

include L

theorem us1_ok : ∀ p ∈ us1 kt ka qt y m0, ∀ x : p.1.shape.Idx, p.2 x = upds S t0 (p.1.emb x) := by
  intro p hp x
  simp only [us1, List.mem_singleton] at hp
  subst hp
  idx_vars x
  exact (blk0 L _ _ _).trans ((congrArg (fun n => (((S x0).upd (t0 + n) x1 : ℝ) : EReal)) (Nat.zero_add _).symm).trans
    (upds_at 0 32 _ x0 x1 x2).symm)

omit L in
theorem us1_cov (j : S64x16x128.Idx) (h : (j 2).val < 32) : ∃ p ∈ us1 kt ka qt y m0, j ∈ p.1.set :=
  ⟨_, List.mem_cons_self, mem_cols 0 inb_S64x16x128_S64x16x32_0_0_0 j (Nat.zero_le _) (by omega)⟩

theorem us2_ok : ∀ p ∈ us2 kt ka qt y m0 v, ∀ x : p.1.shape.Idx, p.2 x = upds S t0 (p.1.emb x) := by
  intro p hp x
  rw [us2, List.mem_cons] at hp
  rcases hp with rfl | hp
  · idx_vars x
    exact (blk1 L _ (read_cols v 32 _ _ (us1_ok L) us1_cov) _ _ _).trans (upds_at 32 32 _ x0 x1 x2).symm
  · exact us1_ok L p hp x

omit L in
theorem us2_cov (j : S64x16x128.Idx) (h : (j 2).val < 64) : ∃ p ∈ us2 kt ka qt y m0 v, j ∈ p.1.set := by
  by_cases h' : (j 2).val < 32
  · obtain ⟨p, hp, hj⟩ := us1_cov (kt := kt) (ka := ka) (qt := qt) (y := y) (m0 := m0) j h'
    exact ⟨p, List.mem_cons_of_mem _ hp, hj⟩
  · exact ⟨_, List.mem_cons_self, mem_cols 32 inb_S64x16x128_S64x16x32_0_0_32 j (by omega) (by omega)⟩

theorem us3_ok : ∀ p ∈ us3 kt ka qt y m0 v, ∀ x : p.1.shape.Idx, p.2 x = upds S t0 (p.1.emb x) := by
  intro p hp x
  rw [us3, List.mem_cons] at hp
  rcases hp with rfl | hp
  · idx_vars x
    exact (blk2 L _ (read_cols v 64 _ _ (us2_ok L v) (us2_cov v)) _ _ _).trans (upds_at 64 32 _ x0 x1 x2).symm
  · exact us2_ok L v p hp x

omit L in
theorem us3_cov (j : S64x16x128.Idx) (h : (j 2).val < 96) : ∃ p ∈ us3 kt ka qt y m0 v, j ∈ p.1.set := by
  by_cases h' : (j 2).val < 64
  · obtain ⟨p, hp, hj⟩ := us2_cov (kt := kt) (ka := ka) (qt := qt) (y := y) (m0 := m0) v j h'
    exact ⟨p, List.mem_cons_of_mem _ hp, hj⟩
  · exact ⟨_, List.mem_cons_self, mem_cols 64 inb_S64x16x128_S64x16x32_0_0_64 j (by omega) (by omega)⟩

theorem us4_ok : ∀ p ∈ us4 kt ka qt y m0 v, ∀ x : p.1.shape.Idx, p.2 x = upds S t0 (p.1.emb x) := by
  intro p hp x
  rw [us4, List.mem_cons] at hp
  rcases hp with rfl | hp
  · idx_vars x
    exact (blk3 L _ (read_cols v 96 _ _ (us3_ok L v) (us3_cov v)) _ _ _).trans (upds_at 96 32 _ x0 x1 x2).symm
  · exact us3_ok L v p hp x

omit L in
theorem us4_cov (j : S64x16x128.Idx) (h : (j 2).val < 128) : ∃ p ∈ us4 kt ka qt y m0 v, j ∈ p.1.set := by
  by_cases h' : (j 2).val < 96
  · obtain ⟨p, hp, hj⟩ := us3_cov (kt := kt) (ka := ka) (qt := qt) (y := y) (m0 := m0) v j h'
    exact ⟨p, List.mem_cons_of_mem _ hp, hj⟩
  · exact ⟨_, List.mem_cons_self, mem_cols 96 inb_S64x16x128_S64x16x32_0_0_96 j (by omega) (by omega)⟩

/-- The whole solution. -/
theorem uAll_apply (b : Fin 64) (i : Fin 16) (r : Fin 128) :
    uAll kt ka qt y m0 v (ix3 b i r) = ((S b).upd (t0 + r.val) i : EReal) :=
  read_cols v 128 _ _ (us4_ok L v) (us4_cov v) b i r

end

section
variable {S t0 kt ka qt y m0} (L : Lifted S t0 kt ka qt y m0)
  (u : Vec Ideal S64x16x128 .f32) (hu : ∀ b i r, u (ix3 b i r) = ((S b).upd (t0 + r.val) i : EReal))
include L hu

/-- The state the chunk leaves. -/
theorem state_apply (b : Fin 64) (i j : Fin 16) : k0_pay65 kt m0 u (ix3 b i j) = ((S b).st (t0 + 128) i j : EReal) := by
  pointwise [k0_pay65]
  simp only [hu, L.hm, L.hk, ← EReal.coe_mul, ← coe_sum, ← EReal.coe_sub]
  rw [Seq.st_chunk]

/-- The chunk's outputs. -/
theorem out_apply (b : Fin 64) (i : Fin 16) (c : Fin 128) :
    k0_pay64 (k0_pay47 kt ka qt) (k0_pay48 ka qt m0) rowI colI u (ix3 b i c) = ((S b).out (t0 + c) i : EReal) := by
  have e := state_q L b i c
  pointwise [k0_pay64]
  refine (congrArg (· - _) e).trans ?_
  rw [Seq.out_chunk, EReal.coe_sub, coe_sum Finset.univ (fun s : Fin 128 => _)]
  refine congrArg (_ - ·) (Finset.sum_congr rfl fun x _ => ?_)
  rw [sle_le, hu, gram_q L]
  split_ifs
  · exact (EReal.coe_mul _ _).symm
  · rw [mul_zero]; rfl

end
end Cert.KernelIdeal.Solve
end
-- ==== Proof.Out.lean ====
/-
  The outputs of one grid point: the chunk's outputs stored one sequence at a time and read back as one matrix, the
  output projection, and the output block's sixteen pieces, read at an index.
-/
module

public import proofs.«01_k».proof.Proof.Solve

@[expose] public section
set_option maxRecDepth 16384
noncomputable section

namespace Cert.KernelIdeal.Out

open Cert.KernelIdeal Cert.KernelIdeal.Gen Cert.KernelIdeal.Stages Cert.KernelIdeal.Front Cert.KernelIdeal.Stack
open Cert.KernelIdeal.Solve
open Idealize.ShloMosaic Idealize.ShloMosaic.TcCoe Idealize.ShloMosaic.Tactic
open DeltaRule

theorem slices_bat (n : Fin 16) : S64x16x128.Slices ![4 * n.val, 0, 0] S4x16x128 := by
  refine ⟨rfl, fun a => ?_⟩
  fin_cases a
  · show 4 * n.val + 4 ≤ 64; omega
  · show 0 + 16 ≤ 16; omega
  · show 0 + 128 ≤ 128; omega

/-- One sequence's outputs, the heads side by side. -/
def outPart (v : FVec Ideal S64x16x128 .f32) (n : Fin 16) : FVec Ideal S64x128 .f32 :=
  shapeCast S64x128 (shapeCast S64x128 (extractStridedSlice S4x16x128 ![4 * n.val, 0, 0] v (slices_bat n))
    shapeCasts_S4x16x128_S64x128) shapeCasts_S64x128_S64x128

/-- The outputs as one matrix: row `(head, component)`, column `(sequence, step)`. -/
def outMat (v : FVec Ideal S64x16x128 .f32) : S64x2048.Idx → EReal := fun j =>
  v (ix3 (⟨4 * ((j 1).val / 128) + (j 0).val / 16, by
      have h0 : (j 0).val < 64 := (j 0).isLt
      have h1 : (j 1).val < 2048 := (j 1).isLt
      omega⟩ : Fin 64) (⟨(j 0).val % 16, by omega⟩ : Fin 16) (⟨(j 1).val % 128, by omega⟩ : Fin 128))

theorem outPart_apply (v : FVec Ideal S64x16x128 .f32) (n : Fin 16) (r : Fin 64) (c : Fin 128) :
    outPart v n (ix2 r c) = v (ix3 ⟨4 * n.val + r.val / 16, by omega⟩ ⟨r.val % 16, by omega⟩ c) := by
  pointwise [outPart]

theorem inb_seq (n : Fin 16) : ∀ a, (![0, 128 * n.val] : Fin 2 → ℕ) a + S64x128.size a ≤ S64x2048.size a := by
  intro a
  fin_cases a
  · show 0 + 64 ≤ 64; omega
  · show 128 * n.val + 128 ≤ 2048; omega

/-- The sixteen stores, last first. -/
theorem os_eq (g : FVec Ideal S64x128x128 .f32) (mq : FVec Ideal S64x16x256 .f32) (u : Vec Ideal S64x16x128 .f32) :
    os g mq u = List.ofFn fun k : Fin 16 => (⟨Rect.unit ![0, 128 * (15 - k : Fin 16).val] S64x128.size (inb_seq (15 - k)),
      outPart (k0_pay64 g mq rowI colI u) (15 - k)⟩ : View.Piece (Elt Ideal) S64x2048 .f32) := rfl

theorem oAll_apply (g : FVec Ideal S64x128x128 .f32) (mq : FVec Ideal S64x16x256 .f32) (u : Vec Ideal S64x16x128 .f32)
    (v : View sig .tc .vmem S64x2048 .f32) (r : Fin 64) (n : Fin 16) (c : Fin 128) :
    oAll g mq u v (ix2 r (col n c)) = k0_pay64 g mq rowI colI u (ix3 ⟨4 * n.val + r.val / 16, by omega⟩ ⟨r.val % 16, by omega⟩ c) := by
  unfold oAll
  rw [View.readCov_eq_canon']
  have hr : (Rect.unit ![0, 0] S64x2048.size inb_S64x2048_S64x2048_0_0 : Rect S64x2048).toLoadRect.idx (ix2 r (col n c))
      = ix2 r (col n c) := by
    funext a
    fin_cases a
    · exact Fin.ext (show 0 + 1 * r.val = r.val by omega)
    · exact Fin.ext (show 0 + 1 * (col n c).val = (col n c).val by omega)
  refine (congrArg (View.canon (os g mq u)) hr).trans ?_
  rw [View.canon_apply_of_pieces (outMat (k0_pay64 g mq rowI colI u)) _ _ _ _]
  · have e1 : (col n c).val / 128 = n.val := by simp only [col]; omega
    have e2 : (col n c).val % 128 = c.val := by simp only [col]; omega
    show k0_pay64 g mq rowI colI u (ix3 ⟨4 * ((col n c).val / 128) + r.val / 16, _⟩ ⟨r.val % 16, _⟩ ⟨(col n c).val % 128, _⟩) = _
    simp only [e1, e2]
  · intro p hp x
    rw [os_eq, List.mem_ofFn] at hp
    obtain ⟨k, rfl⟩ := hp
    idx_vars x
    refine (outPart_apply _ _ x0 x1).trans ?_
    generalize (15 - k : Fin 16) = n
    have e0 : ((Rect.unit (s := S64x2048) ![0, 128 * n.val] S64x128.size (inb_seq n)).emb (ix2 x0 x1) 0).val = x0.val :=
      show 0 + 1 * x0.val = x0.val by omega
    have e1 : ((Rect.unit (s := S64x2048) ![0, 128 * n.val] S64x128.size (inb_seq n)).emb (ix2 x0 x1) 1).val = 128 * n.val + x1.val :=
      show 128 * n.val + 1 * x1.val = _ by omega
    have a1 : (128 * n.val + x1.val) / 128 = n.val := by omega
    have a2 : (128 * n.val + x1.val) % 128 = x1.val := by omega
    unfold outMat
    simp only [e0, e1, a1, a2]
  · rw [os_eq]
    refine ⟨_, List.mem_ofFn.mpr ⟨15 - n, rfl⟩, ?_⟩
    rw [sub_sub_cancel, Rect.mem_set_unit]
    intro a
    fin_cases a
    · exact ⟨Nat.zero_le _, by show r.val < 0 + 64; omega⟩
    · exact ⟨by show 128 * n.val ≤ 128 * n.val + c.val; omega, by show 128 * n.val + c.val < 128 * n.val + 128; omega⟩

theorem slices_out (n : Fin 16) : S192x2048.Slices ![0, 128 * n.val] S192x128 := by
  refine ⟨rfl, fun a => ?_⟩
  fin_cases a
  · show 0 + 192 ≤ 192; omega
  · show 128 * n.val + 128 ≤ 2048; omega

/-- One sequence's projected outputs. -/
def fibPart (z : FVec Ideal S192x2048 .f32) (n : Fin 16) : FVec Ideal S1x192x128 .f32 :=
  shapeCast S1x192x128 (extractStridedSlice S192x128 ![0, 128 * n.val] z (slices_out n)) shapeCasts_S192x128_S1x192x128

theorem fibPart_apply (z : FVec Ideal S192x2048 .f32) (n : Fin 16) (o : Fin 192) (c : Fin 128) :
    fibPart z n (ix3 0 o c) = z (ix2 o (col n c)) := by
  pointwise [fibPart]
  rfl

theorem inb_out (n : Fin 16) : ∀ a, (![n.val, 0, 0] : Fin 3 → ℕ) a + S1x192x128.size a ≤ S16x192x128.size a := by
  intro a
  fin_cases a
  · show n.val + 1 ≤ 16; omega
  · show 0 + 192 ≤ 192; omega
  · show 0 + 128 ≤ 128; omega

theorem outs_eq (ow : Vec Ideal S192x64 .f32) (o : Vec Ideal S64x2048 .f32) :
    outs ow o = List.ofFn fun k : Fin 16 => (⟨Rect.unit ![(15 - k : Fin 16).val, 0, 0] S1x192x128.size (inb_out (15 - k)),
      fibPart (k0_pay84 ow o) (15 - k)⟩ : View.Piece (Elt Ideal) S16x192x128 .f32) := rfl

/-- The output block: each sequence's outputs under the output weights. -/
theorem outs_apply (ow : Vec Ideal S192x64 .f32) (os : Vec Ideal S64x2048 .f32) (n : Fin 16) (o : Fin 192) (c : Fin 128) :
    View.canon (outs ow os) (ix3 n o c) = ∑ m : Fin 64, ow (ix2 o m) * os (ix2 m (col n c)) := by
  have hz : k0_pay84 ow os (ix2 o (col n c)) = ∑ m : Fin 64, ow (ix2 o m) * os (ix2 m (col n c)) := by
    pointwise [k0_pay84]
  rw [← hz, View.canon_apply_of_pieces
    (fun j : S16x192x128.Idx => k0_pay84 ow os (ix2 (j 1 : Fin 192) (col (j 0 : Fin 16) (j 2 : Fin 128)))) _ _ _ _]
  · rfl
  · intro p hp x
    rw [outs_eq, List.mem_ofFn] at hp
    obtain ⟨k, rfl⟩ := hp
    idx_vars x
    generalize (15 - k : Fin 16) = n
    have h0 : x0 = 0 := Fin.ext (by omega)
    subst h0
    refine (fibPart_apply _ n x1 x2).trans ?_
    have e0 : ((Rect.unit (s := S16x192x128) ![n.val, 0, 0] S1x192x128.size (inb_out n)).emb (ix3 0 x1 x2)) 0 = n :=
      Fin.ext (show n.val + 1 * 0 = n.val by omega)
    have e1 : ((Rect.unit (s := S16x192x128) ![n.val, 0, 0] S1x192x128.size (inb_out n)).emb (ix3 0 x1 x2)) 1 = x1 :=
      Fin.ext (show 0 + 1 * x1.val = x1.val by omega)
    have e2 : ((Rect.unit (s := S16x192x128) ![n.val, 0, 0] S1x192x128.size (inb_out n)).emb (ix3 0 x1 x2)) 2 = x2 :=
      Fin.ext (show 0 + 1 * x2.val = x2.val by omega)
    simp only [e0, e1, e2]
  · rw [outs_eq]
    refine ⟨_, List.mem_ofFn.mpr ⟨15 - n, rfl⟩, ?_⟩
    rw [sub_sub_cancel, Rect.mem_set_unit]
    intro a
    fin_cases a
    · exact ⟨le_refl n.val, Nat.lt_succ_self n.val⟩
    · exact ⟨Nat.zero_le _, by show o.val < 0 + 192; omega⟩
    · exact ⟨Nat.zero_le _, by show c.val < 0 + 128; omega⟩

/-! ## The whole body -/

variable (S : Fin 64 → Seq) (t0 : ℕ) (x : Vec Ideal S16x128x256 .f32) (w : Vec Ideal S200x256 .f32)
  (md : Vec Ideal S1x8x2048 .f32) (m0 : Vec Ideal S64x16x16 .f32)

/-- The point's blocks are those of the 64 delta rules from step `t0` on: keys and queries normalised, values and gates
    projected, the carried state. -/
structure Point : Prop where
  hk : ∀ n h d (c : Fin 128), (S (bat n h)).k (t0 + c) d = unR (fun d' => proj x w (krow h d') n c) d
  hq : ∀ n h d (c : Fin 128), (S (bat n h)).q (t0 + c) d = lnR (fun d' => proj x w (qrow h d') n c) d
  hv : ∀ n h d (c : Fin 128), proj x w (vrow h d) n c = ((S (bat n h)).v (t0 + c) d : EReal)
  ha : ∀ n h (c : Fin 128), (S (bat n h)).a (t0 + c) = gate x w md 1 h n c
  hb : ∀ n h (c : Fin 128), (S (bat n h)).b (t0 + c) = gate x w md 0 h n c
  hm : ∀ b i j, m0 (ix3 b i j) = ((S b).st t0 i j : EReal)

theorem bat_split (b : Fin 64) : ∃ n h, b = bat n h :=
  ⟨⟨b.val / 4, by omega⟩, ⟨b.val % 4, by omega⟩, Fin.ext (by simp only [bat]; omega)⟩

variable {S t0 x w md m0}

theorem Point.lifted (P : Point S t0 x w md m0) : Lifted S t0 (ktn x w) (kan x w md) (qtn x w) (vb x w md) m0 where
  hk b d c := by
    obtain ⟨n, h, rfl⟩ := bat_split b
    rw [ktn, ktn_eq, stacked_apply, kn_apply, P.hk]
  hka b d c := by
    obtain ⟨n, h, rfl⟩ := bat_split b
    rw [kan, stackA_eq, stacked_apply, ka_apply, P.hk, P.ha]
  hq b d c := by
    obtain ⟨n, h, rfl⟩ := bat_split b
    rw [qtn, qtn_eq, stacked_apply, qn_apply, P.hq]
  hy b d c := by
    obtain ⟨n, h, rfl⟩ := bat_split b
    rw [stacked_apply, vb_apply, P.hv, P.hb, EReal.coe_mul]
  hm := P.hm

variable (P : Point S t0 x w md m0) (ow : Vec Ideal S192x64 .f32) (v8 : View sig .tc .vmem S64x2048 .f32)
  (v9 : View sig .tc .vmem S64x16x128 .f32)
include P

/-- The state the point leaves. -/
theorem mNew_apply (b : Fin 64) (i j : Fin 16) : mNew x w md m0 v9 (ix3 b i j) = ((S b).st (t0 + 128) i j : EReal) :=
  state_apply P.lifted _ (uAll_apply P.lifted v9) b i j

/-- The output block the point leaves. -/
theorem block_apply (n : Fin 16) (o : Fin 192) (c : Fin 128) :
    View.canon (outPieces x w md ow m0 v8 v9) (ix3 n o c)
      = ∑ m : Fin 64, ow (ix2 o m) * ((S ⟨4 * n.val + m.val / 16, by omega⟩).out (t0 + c) ⟨m.val % 16, by omega⟩ : EReal) := by
  unfold outPieces
  rw [outs_apply]
  refine Finset.sum_congr rfl fun m _ => congrArg _ ?_
  unfold Stages.o
  rw [oAll_apply]
  exact out_apply P.lifted _ (uAll_apply P.lifted v9) _ _ _

end Cert.KernelIdeal.Out
end
-- ==== Proof.Region.lean ====
/-
  The grid, point by point: what the carried state holds after a point and what the output block holds, from what the
  operand arrays hold when the grid starts; and from the blocks, what the result array holds at the end.
-/
module

public import proofs.«01_k».proof.Proof.Out

@[expose] public section
set_option maxRecDepth 16384
noncomputable section

namespace Cert.KernelIdeal.Region

open Cert.KernelIdeal Cert.KernelIdeal.Gen Cert.KernelIdeal.Stages Cert.KernelIdeal.Front Cert.KernelIdeal.Stack
open Cert.KernelIdeal.Out
open Idealize.ShloMosaic Idealize.ShloMosaic.TcCoe Idealize.ShloMosaic.Tactic
open Idealize.ShloMosaic.Tactic
open DeltaRule

/-! ## The windows' block indices -/

theorem index_x : ∀ t : Fin cfg0.N, win0_0.index t = ![t.val / 16, t.val % 16, 0] :=
  (by decide +kernel : ∀ t : Fin grid0.N, _)
theorem index_w : ∀ t : Fin cfg0.N, win0_1.index t = ![0, 0] := (by decide +kernel : ∀ t : Fin grid0.N, _)
theorem index_md : ∀ t : Fin cfg0.N, win0_2.index t = ![t.val / 16, 0, 0] :=
  (by decide +kernel : ∀ t : Fin grid0.N, _)
theorem index_ow : ∀ t : Fin cfg0.N, win0_3.index t = ![0, 0] := (by decide +kernel : ∀ t : Fin grid0.N, _)
theorem index_out : ∀ t : Fin cfg0.N, win0_4.index t = ![t.val / 16, 0, t.val % 16] :=
  (by decide +kernel : ∀ t : Fin grid0.N, _)

theorem lt64 (t : Fin cfg0.N) : t.val < 64 := lt_of_lt_of_eq t.isLt N_0

/-- The sequence that is number `n` of the point `t`'s sixteen. -/
def seqIx (t : Fin cfg0.N) (n : Fin 16) : Fin 64 := ⟨16 * (t.val / 16) + n, by have := lt64 t; omega⟩
/-- The step that is number `c` of the point `t`'s chunk. -/
def stepIx (t : Fin cfg0.N) (c : Fin 128) : Fin 2048 := ⟨128 * (t.val % 16) + c, by omega⟩
/-- The group of sixteen sequences the point `t` works on. -/
def grpIx (t : Fin cfg0.N) : Fin 4 := ⟨t.val / 16, by have := lt64 t; omega⟩

variable (m : (ℓ : Loc nD τ sig) → Buf (Elt Ideal) ℓ) (dv : Dev nD)

/-- The operand arrays as the grid finds them. -/
def X : FVec Ideal S64x2048x256 .f32 := V m dv main_v0
def W : FVec Ideal S200x256 .f32 := V m dv main_v1
def MD : FVec Ideal S4x8x2048 .f32 := V m dv main_v27
def OW : FVec Ideal S192x64 .f32 := V m dv main_arg12

theorem blk_x (t : Fin cfg0.N) (n : Fin 16) (c : Fin 128) (j : Fin 256) :
    (iblk m dv 0 t : Vec Ideal S16x128x256 .f32) (ix3 n c j) = X m dv (ix3 (seqIx t n) (stepIx t c) j) := by
  unfold iblk
  rw [View.read_apply]
  show V m dv main_v0 _ = V m dv main_v0 _
  congr 1
  funext a
  apply Fin.ext
  match a with
  | ⟨0, _⟩ => show win0_0.index t 0 * 16 + 1 * n.val = 16 * (t.val / 16) + n.val; rw [index_x]; show t.val / 16 * 16 + _ = _; omega
  | ⟨1, _⟩ => show win0_0.index t 1 * 128 + 1 * c.val = 128 * (t.val % 16) + c.val; rw [index_x]; show t.val % 16 * 128 + _ = _; omega
  | ⟨2, _⟩ => show win0_0.index t 2 * 256 + 1 * j.val = j.val; rw [index_x]; show 0 * 256 + _ = _; omega

theorem blk_w (t : Fin cfg0.N) (r : Fin 200) (j : Fin 256) :
    (iblk m dv 1 t : Vec Ideal S200x256 .f32) (ix2 r j) = W m dv (ix2 r j) := by
  unfold iblk
  rw [View.read_apply]
  show V m dv main_v1 _ = V m dv main_v1 _
  congr 1
  funext a
  apply Fin.ext
  match a with
  | ⟨0, _⟩ => show win0_1.index t 0 * 200 + 1 * r.val = r.val; rw [index_w]; show 0 * 200 + _ = _; omega
  | ⟨1, _⟩ => show win0_1.index t 1 * 256 + 1 * j.val = j.val; rw [index_w]; show 0 * 256 + _ = _; omega

theorem blk_md (t : Fin cfg0.N) (r : Fin 8) (l : Fin 2048) :
    (iblk m dv 2 t : Vec Ideal S1x8x2048 .f32) (ix3 0 r l) = MD m dv (ix3 (grpIx t) r l) := by
  unfold iblk
  rw [View.read_apply]
  show V m dv main_v27 _ = V m dv main_v27 _
  congr 1
  funext a
  apply Fin.ext
  match a with
  | ⟨0, _⟩ => show win0_2.index t 0 * 1 + 1 * 0 = t.val / 16; rw [index_md]; show t.val / 16 * 1 + _ = _; omega
  | ⟨1, _⟩ => show win0_2.index t 1 * 8 + 1 * r.val = r.val; rw [index_md]; show 0 * 8 + _ = _; omega
  | ⟨2, _⟩ => show win0_2.index t 2 * 2048 + 1 * l.val = l.val; rw [index_md]; show 0 * 2048 + _ = _; omega

theorem blk_ow (t : Fin cfg0.N) (o : Fin 192) (k : Fin 64) :
    (iblk m dv 3 t : Vec Ideal S192x64 .f32) (ix2 o k) = OW m dv (ix2 o k) := by
  unfold iblk
  rw [View.read_apply]
  show V m dv main_arg12 _ = V m dv main_arg12 _
  congr 1
  funext a
  apply Fin.ext
  match a with
  | ⟨0, _⟩ => show win0_3.index t 0 * 192 + 1 * o.val = o.val; rw [index_ow]; show 0 * 192 + _ = _; omega
  | ⟨1, _⟩ => show win0_3.index t 1 * 64 + 1 * k.val = k.val; rw [index_ow]; show 0 * 64 + _ = _; omega

/-! ## The operands, as the data of 64 × 4 recurrences -/

/-- One weight row against one input row. -/
def pr (x : FVec Ideal S64x2048x256 .f32) (w : FVec Ideal S200x256 .f32) (r : Fin 200) (n : Fin 64) (t : Fin 2048) : EReal :=
  ∑ j : Fin 256, w (ix2 r j) * x (ix3 n t j)

/-- The recurrences `S n h` (sequence `n`, head `h`) have the keys, queries, values and gates the operand arrays give. -/
structure Entry (S : Fin 64 → Fin 4 → Seq) (x : FVec Ideal S64x2048x256 .f32) (w : FVec Ideal S200x256 .f32)
    (md : FVec Ideal S4x8x2048 .f32) : Prop where
  hk : ∀ n h d (t : Fin 2048), (S n h).k t d = unR (fun d' => pr x w (krow h d') n t) d
  hq : ∀ n h d (t : Fin 2048), (S n h).q t d = lnR (fun d' => pr x w (qrow h d') n t) d
  hv : ∀ n h d (t : Fin 2048), pr x w (vrow h d) n t = ((S n h).v t d : EReal)
  ha : ∀ (i : Fin 4) (n : Fin 16) h (t : Fin 2048) (c : Fin 128), (S ⟨16 * i + n, by omega⟩ h).a t
    = gateR (pr x w (srow 1 h) ⟨16 * i + n, by omega⟩ t + bias 1) (md (ix3 i (grow 1 h) (col n c)))
  hb : ∀ (i : Fin 4) (n : Fin 16) h (t : Fin 2048) (c : Fin 128), (S ⟨16 * i + n, by omega⟩ h).b t
    = gateR (pr x w (srow 0 h) ⟨16 * i + n, by omega⟩ t + bias 0) (md (ix3 i (grow 0 h) (col n c)))

variable {S : Fin 64 → Fin 4 → Seq} (En : Entry S (X m dv) (W m dv) (MD m dv))
include En

/-- The sixty-four recurrences of the point `t`, sequence by sequence and head by head. -/
def ptSeq (S : Fin 64 → Fin 4 → Seq) (t : Fin cfg0.N) (b : Fin 64) : Seq :=
  S (seqIx t ⟨b.val / 4, by omega⟩) ⟨b.val % 4, by omega⟩

omit En in
theorem ptSeq_bat (t : Fin cfg0.N) (n : Fin 16) (h : Fin 4) : ptSeq S t (bat n h) = S (seqIx t n) h := by
  unfold ptSeq bat
  congr 1
  · congr 1; apply Fin.ext; show (4 * n.val + h.val) / 4 = n.val; omega
  · apply Fin.ext; show (4 * n.val + h.val) % 4 = h.val; omega

omit En in
theorem proj_blk (t : Fin cfg0.N) (r : Fin 200) (n : Fin 16) (c : Fin 128) :
    proj (iblk m dv 0 t) (iblk m dv 1 t) r n c = pr (X m dv) (W m dv) r (seqIx t n) (stepIx t c) :=
  Finset.sum_congr rfl fun j _ => by rw [blk_x, blk_w]

/-- A point whose carried state is the recurrence's at the chunk's start is a point as `Out` describes it. -/
theorem point (t : Fin cfg0.N) (m0 : FVec Ideal S64x16x16 .f32)
    (hm : ∀ b i j, m0 (ix3 b i j) = ((ptSeq S t b).st (128 * (t.val % 16)) i j : EReal)) :
    Point (ptSeq S t) (128 * (t.val % 16)) (iblk m dv 0 t) (iblk m dv 1 t) (iblk m dv 2 t) m0 where
  hk n h d c := by
    rw [ptSeq_bat, show 128 * (t.val % 16) + c.val = (stepIx t c).val from rfl, En.hk]
    simp only [proj_blk]
  hq n h d c := by
    rw [ptSeq_bat, show 128 * (t.val % 16) + c.val = (stepIx t c).val from rfl, En.hq]
    simp only [proj_blk]
  hv n h d c := by
    rw [ptSeq_bat, show 128 * (t.val % 16) + c.val = (stepIx t c).val from rfl, ← En.hv, proj_blk]
  ha n h c := by
    rw [ptSeq_bat, gate, proj_blk, blk_md]
    exact En.ha (grpIx t) n h (stepIx t c) c
  hb n h c := by
    rw [ptSeq_bat, gate, proj_blk, blk_md]
    exact En.hb (grpIx t) n h (stepIx t c) c
  hm := hm

/-! ## The point's results -/

/-- After the point `t` the carried state is the recurrence's after the chunk, and the block is the projected outputs. -/
def Good (S : Fin 64 → Fin 4 → Seq) (ow : FVec Ideal S192x64 .f32) (t : Fin cfg0.N)
    (p : Vec Ideal S16x192x128 .f32 × Vec Ideal S64x16x16 .f32) : Prop :=
  (∀ b i j, p.2 (ix3 b i j) = ((ptSeq S t b).st (128 * (t.val % 16) + 128) i j : EReal))
  ∧ ∀ n o c, p.1 (ix3 n o c) = ∑ k : Fin 64, ow (ix2 o k)
      * ((S (seqIx t n) ⟨k.val / 16, by omega⟩).out (stepIx t c) ⟨k.val % 16, by omega⟩ : EReal)

omit En in
theorem ptSeq_row (t : Fin cfg0.N) (n : Fin 16) (k : Fin 64) (hk : 4 * n.val + k.val / 16 < 64) :
    ptSeq S t ⟨4 * n + k / 16, hk⟩ = S (seqIx t n) ⟨k.val / 16, by omega⟩ :=
  ptSeq_bat t n ⟨k.val / 16, by omega⟩

theorem good_of (t : Fin cfg0.N) (m0 : FVec Ideal S64x16x16 .f32) (v8 v9)
    (hm : ∀ b i j, m0 (ix3 b i j) = ((ptSeq S t b).st (128 * (t.val % 16)) i j : EReal)) :
    Good S (OW m dv) t (View.canon (outPieces (iblk m dv 0 t) (iblk m dv 1 t) (iblk m dv 2 t) (iblk m dv 3 t) m0 v8 v9),
      mNew (iblk m dv 0 t) (iblk m dv 1 t) (iblk m dv 2 t) m0 v9) := by
  have P := point m dv En t m0 hm
  refine ⟨fun b i j => mNew_apply P v9 b i j, fun n o c => ?_⟩
  have hb := block_apply P (iblk m dv 3 t) v8 v9 n o c
  dsimp only
  rw [hb]
  refine Finset.sum_congr rfl fun k _ => ?_
  rw [blk_ow, ptSeq_row, show 128 * (t.val % 16) + c.val = (stepIx t c).val from rfl]

theorem good : ∀ (k : ℕ) (t : Fin cfg0.N), t.val = k → Good S (OW m dv) t (outsAt0 m dv t.val t.isLt)
  | k, t, hk => by
    by_cases h0 : t.val % 16 = 0
    · rw [outsAt0_A m dv t h0, out_A, sout_A]
      refine good_of m dv En t _ _ _ fun b i j => ?_
      rw [h0, Nat.mul_zero]
      exact Ideal.ofBits_zero_f32
    · rw [outsAt0_B m dv t h0, out_B, sout_B]
      refine good_of m dv En t _ _ _ fun b i j => ?_
      have hlt : t.val - 1 < cfg0.N := by have := t.isLt; omega
      have ih := good (k - 1) ⟨t.val - 1, hlt⟩ (by show t.val - 1 = k - 1; omega)
      refine (ih.1 b i j).trans ?_
      have e1 : 128 * ((t.val - 1) % 16) + 128 = 128 * (t.val % 16) := by omega
      have e2 : ptSeq S ⟨t.val - 1, hlt⟩ b = ptSeq S t b := by
        unfold ptSeq seqIx
        congr 2
        show 16 * ((t.val - 1) / 16) + _ = 16 * (t.val / 16) + _
        omega
      rw [e2]
      show (((ptSeq S t b).st (128 * ((t.val - 1) % 16) + 128) i j : ℝ) : EReal) = _
      rw [e1]
termination_by k => k
decreasing_by omega

/-! ## The result array -/

/-- What the result array holds at the end: the projected outputs, sequence by sequence. -/
def result (S : Fin 64 → Fin 4 → Seq) (ow : FVec Ideal S192x64 .f32) : FVec Ideal S64x192x2048 .f32 := fun y =>
  ∑ k : Fin 64, ow (ix2 (y 1) k) * ((S (y 0) ⟨k.val / 16, by omega⟩).out (y 2).val ⟨k.val % 16, by omega⟩ : EReal)

omit En in
/-- Two result indices agree when their coordinates do. -/
theorem idx_ext3 {n0 n1 n2 : ℕ} (y z : (a : Fin 3) → Fin (![n0, n1, n2] a)) (h0 : (y 0).val = (z 0).val)
    (h1 : (y 1).val = (z 1).val) (h2 : (y 2).val = (z 2).val) : y = z := by
  funext a
  apply Fin.ext
  match a with
  | ⟨0, _⟩ => exact h0
  | ⟨1, _⟩ => exact h1
  | ⟨2, _⟩ => exact h2

theorem flushed_eq (t : Fin cfg0.N) (hf : (cfg0.win 4).flush t = true) :
    (dats m 0 dv).flushed 4 t = ((cfg0.win 4).blk t).view.read (Elt Ideal) (result S (OW m dv)) := by
  show (cfg0.win 4).cut (grid0.coords t) ((dats m 0 dv).after 4 t) = _
  rw [after0_4]
  funext y
  have hy0 : (y 0).val < 16 := (y 0).isLt
  have hy1 : (y 1).val < 192 := (y 1).isLt
  have hy2 : (y 2).val < 128 := (y 2).isLt
  have hx : (cfg0.win 4).xinj (grid0.coords t) y = ix3 (⟨(y 0).val, hy0⟩ : Fin 16) (⟨(y 1).val, hy1⟩ : Fin 192) (⟨(y 2).val, hy2⟩ : Fin 128) :=
    idx_ext3 _ _ rfl rfl rfl
  have he : ((cfg0.win 4).blk t).view.emb y = ix3 (seqIx t ⟨(y 0).val, hy0⟩) (⟨(y 1).val, hy1⟩ : Fin 192) (stepIx t ⟨(y 2).val, hy2⟩) := by
    refine idx_ext3 _ _ ?_ ?_ ?_
    · show win0_4.index t 0 * 16 + 1 * (y 0).val = 16 * (t.val / 16) + (y 0).val; rw [index_out]; show t.val / 16 * 16 + _ = _; omega
    · show win0_4.index t 1 * 192 + 1 * (y 1).val = (y 1).val; rw [index_out]; show 0 * 192 + _ = _; omega
    · show win0_4.index t 2 * 128 + 1 * (y 2).val = 128 * (t.val % 16) + (y 2).val; rw [index_out]; show t.val % 16 * 128 + _ = _; omega
  show (outsAt0 m dv t.val t.isLt).1 ((cfg0.win 4).xinj (grid0.coords t) y) = result S (OW m dv) (((cfg0.win 4).blk t).view.emb y)
  rw [hx, he]
  exact (good m dv En t.val t rfl).2 _ _ _

omit En in
/-- Every index of the result array lies in the block of the point that works on its group and chunk. -/
theorem covered (y : S64x192x2048.Idx) : ∃ t : Fin cfg0.N, (cfg0.win 4).flush t = true ∧ y ∈ ((cfg0.win 4).blk t).view.set := by
  have h0 : (y 0).val < 64 := (y 0).isLt
  have h1 : (y 1).val < 192 := (y 1).isLt
  have h2 : (y 2).val < 2048 := (y 2).isLt
  have hN : cfg0.N = 64 := N_0
  obtain ⟨t, ht⟩ : ∃ t : Fin cfg0.N, t.val = 16 * ((y 0).val / 16) + (y 2).val / 128 := ⟨⟨_, by rw [hN]; omega⟩, rfl⟩
  refine ⟨t, flush0_4 t, ?_⟩
  show y ∈ ((View.whole main_v28).slice (win0_4.rect t)).set
  rw [View.set_slice_whole, Rect.mem_set_unit]
  intro a
  match a with
  | ⟨0, _⟩ => show win0_4.index t 0 * 16 ≤ (y 0).val ∧ (y 0).val < win0_4.index t 0 * 16 + 16
              rw [index_out]; show t.val / 16 * 16 ≤ _ ∧ _ < t.val / 16 * 16 + 16; omega
  | ⟨1, _⟩ => show win0_4.index t 1 * 192 ≤ (y 1).val ∧ (y 1).val < win0_4.index t 1 * 192 + 192
              rw [index_out]; show 0 * 192 ≤ _ ∧ _ < 0 * 192 + 192; omega
  | ⟨2, _⟩ => show win0_4.index t 2 * 128 ≤ (y 2).val ∧ (y 2).val < win0_4.index t 2 * 128 + 128
              rw [index_out]; show t.val % 16 * 128 ≤ _ ∧ _ < t.val % 16 * 128 + 128; omega

theorem final : (dats m 0 dv).arrAt 4 cfg0.N = result S (OW m dv) :=
  (dats m 0 dv).arrAt_eq_of_cover 4 _ (fun t hf => flushed_eq m dv En t hf) fun y => covered y

end Cert.KernelIdeal.Region

end
-- ==== Proof.Ref.lean ====
/-
  What the reference computes before its loop, at an index: the projections, the layer norms, the unit keys, the values
  and the two gates.
-/
module

public import proofs.«01_k».proof.Proof.Region
public import proofs.«01_k».proof.Proof.Gen.ReferenceIdeal.Step

@[expose] public section
set_option maxRecDepth 16384
noncomputable section

namespace Cert.ReferenceIdeal.Front

open Cert.ReferenceIdeal Cert.ReferenceIdeal.Gen Cert.ReferenceIdeal.Step
open Idealize.ShloMosaic Idealize.ShloMosaic.TcCoe Idealize.ShloMosaic.Tactic
open Idealize.ShloMosaic.Tactic
open DeltaRule

variable (a0 : FVec Ideal S4x2048x16x256 .f32) (a1 a2 : FVec Ideal S4 .f32) (a3 a4 a5 : FVec Ideal S64x256 .f32)
  (a6 : FVec Ideal S4x256 .f32) (a7 : FVec Ideal S4 .f32) (a8 : FVec Ideal S4x256 .f32) (a9 : FVec Ideal S4 .f32)
  (a10 a11 : FVec Ideal S4x1 .f32) (a14 a15 a16 a17 : FVec Ideal S16 .f32)

def row (h : Fin 4) (d : Fin 16) : Fin 64 := ⟨16 * h + d, by omega⟩

/-- One weight row against one input row. -/
def dot {R : ℕ} (x : FVec Ideal S64x2048x256 .f32) (w : FVec Ideal ⟨2, ![R, 256]⟩ .f32) (r : Fin R) (n : Fin 64) (t : Fin 2048) : EReal :=
  ∑ j : Fin 256, x (ix3 n t j) * w (ix2 r j)

/-- The input, its leading axes read as 64 sequences of 2048 steps. -/
def xs : FVec Ideal S64x2048x256 .f32 := shapeCast _ a0 shapeCasts_S4x2048x16x256_S64x2048x256

theorem q_apply (n : Fin 64) (t : Fin 2048) (h : Fin 4) (d : Fin 16) :
    (A_main_v3 (F := Ideal) a0 a1 a2 a3 a4 a5 a6 a7 a8 a9 a10 a11 a14 a15 a16 a17) (ix4 n t h d) = dot (xs a0) a3 (row h d) n t := by
  unfold A_main_v3 A_main_v2 A_main_v1 A_main_v0
  rw [← xs]
  generalize xs a0 = x
  pointwise
  exact Finset.sum_congr rfl fun j _ => congrArg (fun r => x (ix3 n t j) * a3 (ix2 r j)) (Fin.ext (by show h.val * 16 + d.val = 16 * h.val + d.val; omega))

theorem k_apply (n : Fin 64) (t : Fin 2048) (h : Fin 4) (d : Fin 16) :
    (A_main_v30 (F := Ideal) a0 a1 a2 a3 a4 a5 a6 a7 a8 a9 a10 a11 a14 a15 a16 a17) (ix4 n t h d) = dot (xs a0) a4 (row h d) n t := by
  unfold A_main_v30 A_main_v29 A_main_v28 A_main_v0
  rw [← xs]
  generalize xs a0 = x
  pointwise
  exact Finset.sum_congr rfl fun j _ => congrArg (fun r => x (ix3 n t j) * a4 (ix2 r j)) (Fin.ext (by show h.val * 16 + d.val = 16 * h.val + d.val; omega))

theorem v_apply (n : Fin 64) (t : Fin 2048) (h : Fin 4) (d : Fin 16) :
    (A_main_v57 (F := Ideal) a0 a1 a2 a3 a4 a5 a6 a7 a8 a9 a10 a11 a14 a15 a16 a17) (ix4 n t h d) = dot (xs a0) a5 (row h d) n t := by
  unfold A_main_v57 A_main_v56 A_main_v55 A_main_v0
  rw [← xs]
  generalize xs a0 = x
  pointwise
  exact Finset.sum_congr rfl fun j _ => congrArg (fun r => x (ix3 n t j) * a5 (ix2 r j)) (Fin.ext (by show h.val * 16 + d.val = 16 * h.val + d.val; omega))

theorem lnq_apply (hg : ∀ d, a14 (ix1 d) = 1) (hb : ∀ d, a15 (ix1 d) = 0) (n : Fin 64) (t : Fin 2048) (h : Fin 4) (d : Fin 16) :
    (A_main_v27 (F := Ideal) a0 a1 a2 a3 a4 a5 a6 a7 a8 a9 a10 a11 a14 a15 a16 a17) (ix4 n t h d)
      = lnE (fun d' => (A_main_v3 (F := Ideal) a0 a1 a2 a3 a4 a5 a6 a7 a8 a9 a10 a11 a14 a15 a16 a17) (ix4 n t h d')) d := by
  unfold A_main_v27 A_main_v26 A_main_v25 A_main_v24 A_main_v23 A_main_v22 A_main_v21 A_main_v20 A_main_v19 A_main_v18 A_main_v16 A_main_v15 A_main_v14 A_main_v12 A_main_v11 A_main_v10 A_main_v9 A_main_v8 A_main_v7 A_main_v5 A_main_v4 K_main_v6 K_main_v13 K_main_v17 K_main_cst_0 K_main_cst_1 K_main_cst_2 K_main_cst_3 K_main_cst
  generalize (A_main_v3 (F := Ideal) a0 a1 a2 a3 a4 a5 a6 a7 a8 a9 a10 a11 a14 a15 a16 a17) = y
  pointwise
  rw [hg, hb, mul_one, add_zero, ofBits_sixteen, ofBits_eps]
  simp only [div_sixteen]
  exact ln_div (fun d' => y (ix4 n t h d')) d

theorem lnk_apply (hg : ∀ d, a16 (ix1 d) = 1) (hb : ∀ d, a17 (ix1 d) = 0) (n : Fin 64) (t : Fin 2048) (h : Fin 4) (d : Fin 16) :
    (A_main_v54 (F := Ideal) a0 a1 a2 a3 a4 a5 a6 a7 a8 a9 a10 a11 a14 a15 a16 a17) (ix4 n t h d)
      = lnE (fun d' => (A_main_v30 (F := Ideal) a0 a1 a2 a3 a4 a5 a6 a7 a8 a9 a10 a11 a14 a15 a16 a17) (ix4 n t h d')) d := by
  unfold A_main_v54 A_main_v53 A_main_v52 A_main_v51 A_main_v50 A_main_v49 A_main_v48 A_main_v47 A_main_v46 A_main_v45 A_main_v43 A_main_v42 A_main_v41 A_main_v39 A_main_v38 A_main_v37 A_main_v36 A_main_v35 A_main_v34 A_main_v32 A_main_v31 K_main_v33 K_main_v40 K_main_v44 K_main_cst_4 K_main_cst_5 K_main_cst_6 K_main_cst_7 K_main_cst_8
  generalize (A_main_v30 (F := Ideal) a0 a1 a2 a3 a4 a5 a6 a7 a8 a9 a10 a11 a14 a15 a16 a17) = y
  pointwise
  rw [hg, hb, mul_one, add_zero, ofBits_sixteen, ofBits_eps]
  simp only [div_sixteen]
  exact ln_div (fun d' => y (ix4 n t h d')) d

theorem un_apply (hg : ∀ d, a16 (ix1 d) = 1) (hb : ∀ d, a17 (ix1 d) = 0) (n : Fin 64) (t : Fin 2048) (h : Fin 4) (d : Fin 16)
    (hn : Ideal.sqrt (sq fun d' => dot (xs a0) a4 (row h d') n t) = 0
      ∨ (tiny : EReal) ≤ Ideal.sqrt (sq fun d' => dot (xs a0) a4 (row h d') n t)) :
    (A_main_v61 (F := Ideal) a0 a1 a2 a3 a4 a5 a6 a7 a8 a9 a10 a11 a14 a15 a16 a17) (ix4 n t h d)
      = unE (fun d' => dot (xs a0) a4 (row h d') n t) d := by
  have hy := lnk_apply a0 a1 a2 a3 a4 a5 a6 a7 a8 a9 a10 a11 a14 a15 a16 a17 hg hb n t h
  simp only [k_apply] at hy
  unfold A_main_v61 A_main_v60 A_main_v59 A_main_v58 A_main_call0_v2 A_main_call0_v1 A_main_call0_v0 K_main_call1_v1 K_main_call1_v0 K_main_cst_9 K_main_call0_cst
  revert hy
  generalize (A_main_v54 (F := Ideal) a0 a1 a2 a3 a4 a5 a6 a7 a8 a9 a10 a11 a14 a15 a16 a17) = y
  intro hy
  pointwise
  show Ideal.div (y (ix4 n t h d)) (max (Ideal.ofBits FTy.f32 0x2B8CBCCC#32) (Ideal.sqrt (∑ x, y (ix4 n t h x) * y (ix4 n t h x)))) = _
  simp only [hy]
  rw [ofBits_tiny, max_comm]
  exact un_ln _ hn d

/-- The shift of the write gate: the batch's clipped curvature by the head's weight. -/
def shiftB (n : Fin 64) (h : Fin 4) : EReal :=
  min (Ideal.ofBits .f32 0x41200000#32) (FloatOps.absf (a1 (ix1 ⟨n.val / 16, by omega⟩))) * a10 (ix2 h 0)
/-- The shift of the forget gate: the batch's clipped entropy by the head's weight. -/
def shiftA (n : Fin 64) (h : Fin 4) : EReal :=
  min (Ideal.ofBits .f32 0x40A00000#32) (max (Ideal.ofBits .f32 0x00000000#32) (a2 (ix1 ⟨n.val / 16, by omega⟩))) * a11 (ix2 h 0)

theorem beta_apply (n : Fin 64) (t : Fin 2048) (h : Fin 4) :
    (A_main_v101 (F := Ideal) a0 a1 a2 a3 a4 a5 a6 a7 a8 a9 a10 a11 a14 a15 a16 a17) (ix3 n t h) = (gateR (dot (xs a0) a6 h n t + a7 (ix1 h)) (shiftB a1 a10 n h) : EReal) := by
  unfold A_main_v101 A_main_v99 A_main_v97 A_main_v96 A_main_v95 A_main_v94 A_main_v93 A_main_v92 A_main_v91 A_main_v90 A_main_v89 A_main_v88 A_main_v87 A_main_v86 A_main_v85 A_main_v84 A_main_v72 A_main_v70 A_main_v68 A_main_v67 A_main_v66 A_main_v65 A_main_v64 A_main_v63 A_main_v62 A_main_v0 K_main_v98 K_main_v100 K_main_v69 K_main_v71 K_main_cst_10 K_main_cst_11 K_main_cst_15 K_main_cst_16 K_main_call2_v1 K_main_call2_v0 K_main_cst_14
  rw [← xs]
  generalize xs a0 = x
  pointwise
  exact gate_coe _ _

theorem alpha_apply (n : Fin 64) (t : Fin 2048) (h : Fin 4) :
    (A_main_v118 (F := Ideal) a0 a1 a2 a3 a4 a5 a6 a7 a8 a9 a10 a11 a14 a15 a16 a17) (ix3 n t h) = (gateR (dot (xs a0) a8 h n t + a9 (ix1 h)) (shiftA a2 a11 n h) : EReal) := by
  unfold A_main_v118 A_main_v116 A_main_v114 A_main_v113 A_main_v112 A_main_v111 A_main_v110 A_main_v109 A_main_v108 A_main_v107 A_main_v106 A_main_v105 A_main_v104 A_main_v103 A_main_v102 A_main_call3_v2 A_main_v83 A_main_v81 A_main_v79 A_main_v78 A_main_v77 A_main_v76 A_main_v75 A_main_v74 A_main_v73 A_main_v0 K_main_v115 K_main_v117 K_main_v80 K_main_v82 K_main_cst_12 K_main_cst_13 K_main_cst_19 K_main_cst_20 K_main_call3_v1 K_main_call3_v0 K_main_call3_v4 K_main_call3_v3 K_main_cst_17 K_main_cst_18
  rw [← xs]
  generalize xs a0 = x
  pointwise
  exact gate_coe _ _

end Cert.ReferenceIdeal.Front

end
-- ==== Proof.RefLoop.lean ====
/-
  The reference's loop: one trip takes the state of step `t` to that of step `t + 1` and writes one row of outputs; after
  the last trip every row is written.
-/
module

public import proofs.«01_k».proof.Proof.Ref
public import Idealize.ShloMosaic.Lib.DynamicIndex

@[expose] public section
set_option maxRecDepth 16384
noncomputable section

namespace Cert.ReferenceIdeal.Loop

open Cert.ReferenceIdeal Cert.ReferenceIdeal.Gen Cert.ReferenceIdeal.Step
open Idealize.ShloMosaic Idealize.ShloMosaic.TcCoe Idealize.ShloMosaic.Tactic
open DeltaRule

/-! ## One trip's operations at an index -/

theorem toInt_trip {j : ℕ} (hj : j < 2048) : (BitVec.ofNat 32 j).toInt = (j : Int) := by
  rw [BitVec.toInt_ofNat']; exact Int.bmod_eq_of_le (by omega) (by omega)

theorem slices4 {j : ℕ} (hj : j < 2048) : S2048x64x4x16.Slices ![j, 0, 0, 0] S1x64x4x16 := by
  refine ⟨rfl, fun a => ?_⟩
  match a with
  | ⟨0, _⟩ => show j + 1 ≤ 2048; omega
  | ⟨1, _⟩ => show 0 + 64 ≤ 64; omega
  | ⟨2, _⟩ => show 0 + 4 ≤ 4; omega
  | ⟨3, _⟩ => show 0 + 16 ≤ 16; omega

theorem slices3 {j : ℕ} (hj : j < 2048) : S2048x64x4.Slices ![j, 0, 0] S1x64x4 := by
  refine ⟨rfl, fun a => ?_⟩
  match a with
  | ⟨0, _⟩ => show j + 1 ≤ 2048; omega
  | ⟨1, _⟩ => show 0 + 64 ≤ 64; omega
  | ⟨2, _⟩ => show 0 + 4 ≤ 4; omega

/-- The slice trip `j` takes of a rank-four operand is its row `j`. -/
theorem take4 {j : ℕ} (hj : j < 2048) (x : FVec Ideal S2048x64x4x16 .f32) (start : Fin 4 → Int)
    (hs : ∀ a, start a = ((![j, 0, 0, 0] : Fin 4 → ℕ) a : Int)) (n : Fin 64) (h : Fin 4) (d : Fin 16) :
    Host.dynamicSlice S1x64x4x16 x start sliceFits_S2048x64x4x16_S1x64x4x16 (ix4 0 n h d) = x (ix4 ⟨j, hj⟩ n h d) := by
  rw [Host.dynamicSlice_eq_extractStridedSlice S1x64x4x16 x start _ _ (slices4 hj) hs]
  pointwise

theorem take3 {j : ℕ} (hj : j < 2048) (x : FVec Ideal S2048x64x4 .f32) (start : Fin 3 → Int)
    (hs : ∀ a, start a = ((![j, 0, 0] : Fin 3 → ℕ) a : Int)) (n : Fin 64) (h : Fin 4) :
    Host.dynamicSlice S1x64x4 x start sliceFits_S2048x64x4_S1x64x4 (ix3 0 n h) = x (ix3 ⟨j, hj⟩ n h) := by
  rw [Host.dynamicSlice_eq_extractStridedSlice S1x64x4 x start _ _ (slices3 hj) hs]
  pointwise

/-- What trip `j` leaves of a rank-four buffer when it stores the row `u`: the row at `j`, the others kept. -/
theorem put4 {j : ℕ} (hj : j < 2048) (x : FVec Ideal S2048x64x4x16 .f32) (u : FVec Ideal S1x64x4x16 .f32) (start : Fin 4 → Int)
    (hs : ∀ a, start a = ((![j, 0, 0, 0] : Fin 4 → ℕ) a : Int)) (t : Fin 2048) (n : Fin 64) (h : Fin 4) (d : Fin 16) :
    Host.dynamicUpdateSlice x u start updateFits_S2048x64x4x16_S1x64x4x16 (ix4 t n h d)
      = if t.val = j then u (ix4 0 n h d) else x (ix4 t n h d) := by
  have e0 : ∀ hr, Host.clampedStart S2048x64x4x16 S1x64x4x16 hr start 0 = j := fun hr => by
    unfold Host.clampedStart
    rw [hs]
    show (min (max ((j : ℕ) : Int) 0) ((2048 - 1 : ℕ) : Int)).toNat = j
    omega
  have e1 : ∀ hr, Host.clampedStart S2048x64x4x16 S1x64x4x16 hr start 1 = 0 := fun hr => by
    unfold Host.clampedStart; rw [hs]; rfl
  have e2 : ∀ hr, Host.clampedStart S2048x64x4x16 S1x64x4x16 hr start 2 = 0 := fun hr => by
    unfold Host.clampedStart; rw [hs]; rfl
  have e3 : ∀ hr, Host.clampedStart S2048x64x4x16 S1x64x4x16 hr start 3 = 0 := fun hr => by
    unfold Host.clampedStart; rw [hs]; rfl
  pointwise
  simp only [e0, e1, e2, e3]
  by_cases ht : t.val = j
  · rw [dif_pos ⟨⟨by omega, by omega⟩, by omega, by omega, by omega⟩, if_pos ht]
    congr 1
    congr 1
    apply Fin.ext
    show t.val - j = 0
    omega
  · rw [dif_neg (fun hc => ht (by have := hc.1; omega)), if_neg ht]

section
variable (s : State Ideal) {j : ℕ} (hj : j < 2048)
include hj

theorem key (n : Fin 64) (h : Fin 4) (d : Fin 16) : b4 j s (ix3 n h d) = s.main_v126_0 (ix4 ⟨j, hj⟩ n h d) := by
  unfold b4
  pointwise
  refine take4 hj _ _ (fun a => ?_) n h d
  match a with
  | ⟨0, _⟩ => exact toInt_trip hj
  | ⟨1, _⟩ => rfl
  | ⟨2, _⟩ => rfl
  | ⟨3, _⟩ => rfl

theorem value (n : Fin 64) (h : Fin 4) (d : Fin 16) : b9 j s (ix3 n h d) = s.main_v126_1 (ix4 ⟨j, hj⟩ n h d) := by
  unfold b9
  pointwise
  refine take4 hj _ _ (fun a => ?_) n h d
  match a with
  | ⟨0, _⟩ => exact toInt_trip hj
  | ⟨1, _⟩ => rfl
  | ⟨2, _⟩ => rfl
  | ⟨3, _⟩ => rfl

theorem query (n : Fin 64) (h : Fin 4) (d : Fin 16) : b14 j s (ix3 n h d) = s.main_v126_2 (ix4 ⟨j, hj⟩ n h d) := by
  unfold b14
  pointwise
  refine take4 hj _ _ (fun a => ?_) n h d
  match a with
  | ⟨0, _⟩ => exact toInt_trip hj
  | ⟨1, _⟩ => rfl
  | ⟨2, _⟩ => rfl
  | ⟨3, _⟩ => rfl

theorem write (n : Fin 64) (h : Fin 4) : b18 j s (ix2 n h) = s.main_v126_3 (ix3 ⟨j, hj⟩ n h) := by
  unfold b18
  pointwise
  refine take3 hj _ _ (fun a => ?_) n h
  match a with
  | ⟨0, _⟩ => exact toInt_trip hj
  | ⟨1, _⟩ => rfl
  | ⟨2, _⟩ => rfl

theorem forget (n : Fin 64) (h : Fin 4) : b22 j s (ix2 n h) = s.main_v126_4 (ix3 ⟨j, hj⟩ n h) := by
  unfold b22
  pointwise
  refine take3 hj _ _ (fun a => ?_) n h
  match a with
  | ⟨0, _⟩ => exact toInt_trip hj
  | ⟨1, _⟩ => rfl
  | ⟨2, _⟩ => rfl

omit hj in
theorem memory (n : Fin 64) (h : Fin 4) (p r : Fin 16) :
    b41 j s (ix4 n h p r) = s.main_v126_6 (ix4 n h p r)
      - b22 j s (ix2 n h) * ((∑ x, s.main_v126_6 (ix4 n h p x) * b4 j s (ix3 n h x)) * b4 j s (ix3 n h r))
      + b18 j s (ix2 n h) * (b9 j s (ix3 n h p) * b4 j s (ix3 n h r)) := by
  unfold b41 b40 b39 b38 b37 b36 b35 b34 b33 b32 b31 b30 b29 b28 b27 b26 b25 b24 b23
  generalize b4 j s = k
  generalize b9 j s = v
  generalize b22 j s = a
  generalize b18 j s = b
  generalize s.main_v126_6 = M
  pointwise

omit hj in
theorem readout (n : Fin 64) (h : Fin 4) (p : Fin 16) :
    b43 j s (ix4 0 n h p) = ∑ x, b41 j s (ix4 n h p x) * b14 j s (ix3 n h x) := by
  unfold b43 b42
  generalize b41 j s = k
  generalize b14 j s = v
  pointwise

theorem outs (t : Fin 2048) (n : Fin 64) (h : Fin 4) (d : Fin 16) :
    b47 j s (ix4 t n h d) = if t.val = j then b43 j s (ix4 0 n h d) else s.main_v126_7 (ix4 t n h d) := by
  unfold b47
  refine put4 hj _ _ _ (fun a => ?_) t n h d
  match a with
  | ⟨0, _⟩ => exact toInt_trip hj
  | ⟨1, _⟩ => rfl
  | ⟨2, _⟩ => rfl
  | ⟨3, _⟩ => rfl

end

/-! ## The loop's invariant -/

/-- The loop's operands are the keys, values, queries and gates of the recurrences `S`. -/
structure Feeds (S : Fin 64 → Fin 4 → Seq) (s : State Ideal) : Prop where
  k : ∀ (t : Fin 2048) n h d, s.main_v126_0 (ix4 t n h d) = ((S n h).k t d : EReal)
  v : ∀ (t : Fin 2048) n h d, s.main_v126_1 (ix4 t n h d) = ((S n h).v t d : EReal)
  q : ∀ (t : Fin 2048) n h d, s.main_v126_2 (ix4 t n h d) = ((S n h).q t d : EReal)
  b : ∀ (t : Fin 2048) n h, s.main_v126_3 (ix3 t n h) = ((S n h).b t : EReal)
  a : ∀ (t : Fin 2048) n h, s.main_v126_4 (ix3 t n h) = ((S n h).a t : EReal)

/-- Before trip `j`: the memory is the recurrences' state of step `j`, and the rows before `j` hold the outputs. -/
structure Inv (S : Fin 64 → Fin 4 → Seq) (j : ℕ) (s : State Ideal) : Prop where
  feeds : Feeds S s
  mem : ∀ n h p r, s.main_v126_6 (ix4 n h p r) = ((S n h).st j p r : EReal)
  out : ∀ (t : Fin 2048) n h d, t.val < j → s.main_v126_7 (ix4 t n h d) = ((S n h).out t d : EReal)

theorem mem_step {S : Fin 64 → Fin 4 → Seq} {j : ℕ} (hj : j < 2048) {s : State Ideal} (I : Inv S j s) (n : Fin 64) (h : Fin 4)
    (p r : Fin 16) : b41 j s (ix4 n h p r) = ((S n h).st (j + 1) p r : EReal) := by
  rw [memory, forget s hj, write s hj, value s hj, I.feeds.a, I.feeds.b, I.feeds.v]
  simp only [key s hj, I.feeds.k, I.mem, ← EReal.coe_mul, ← coe_sum]
  rw [← EReal.coe_sub, ← EReal.coe_add]
  rfl

theorem step_inv {S : Fin 64 → Fin 4 → Seq} {j : ℕ} (hj : j < 2048) {s : State Ideal} (I : Inv S j s) : Inv S (j + 1) (step j s) where
  feeds := ⟨I.feeds.k, I.feeds.v, I.feeds.q, I.feeds.b, I.feeds.a⟩
  mem n h p r := mem_step hj I n h p r
  out t n h d ht := by
    show b47 j s (ix4 t n h d) = _
    rw [outs s hj]
    by_cases e : t.val = j
    · rw [if_pos e, readout]
      simp only [mem_step hj I, query s hj, I.feeds.q, ← EReal.coe_mul, ← coe_sum]
      rw [e]
      rfl
    · rw [if_neg e]
      exact I.out t n h d (by omega)

/-- The state before trip `j`. -/
def trips (s : State Ideal) : ℕ → State Ideal
  | 0 => s
  | j + 1 => step j (trips s j)

theorem trips_inv {S : Fin 64 → Fin 4 → Seq} {s : State Ideal} (I : Inv S 0 s) : ∀ j, j ≤ 2048 → Inv S j (trips s j)
  | 0, _ => I
  | j + 1, hj => step_inv (by omega) (trips_inv I j (by omega))

/-- The result, of the state after the last trip. -/
theorem result_apply {S : Fin 64 → Fin 4 → Seq} {s : State Ideal} (I : Inv S 2048 s) (a12 : FVec Ideal S192x64 .f32)
    (a13 : FVec Ideal S192 .f32) (p : Fin 4) (t : Fin 2048) (q : Fin 16) (o : Fin 192) :
    R_main_v135 s a12 a13 (ix4 p t q o) = ∑ k : Fin 64, ((S ⟨p.val * 16 + q.val, by omega⟩ ⟨k.val / 16, by omega⟩).out t
      ⟨k.val % 16, by omega⟩ : EReal) * a12 (ix2 o k) + a13 (ix1 o) := by
  unfold R_main_v135
  pointwise
  refine congrArg (· + a13 (ix1 o)) (Finset.sum_congr rfl fun k _ => ?_)
  rw [I.out _ _ _ _ t.isLt]

end Cert.ReferenceIdeal.Loop

end
-- ==== Proof.RefRun.lean ====
/-
  The reference's run: its result is the closed form of the state the 2048 trips end in, started from the set-up values of the
  arguments.
-/
module

public import proofs.«01_k».proof.Proof.RefLoop
public import proofs.«01_k».proof.Proof.Gen.ReferenceIdeal.Run

@[expose] public section
noncomputable section

namespace Cert.ReferenceIdeal.Loop

open Cert.ReferenceIdeal Cert.ReferenceIdeal.Gen Cert.ReferenceIdeal.Value
open Cert.ReferenceIdeal.Step (State step init R_main_v135 b41 b47)
open Idealize.ShloMosaic Idealize.ShloMosaic.TcCoe Idealize.SL.Sem Idealize.ShloMosaic.StableHlo

/-- A valuation carries the state `s` before trip `j`. -/
structure Carries (V : Valuation τ sig (Elt Ideal)) (s : State Ideal) (j : ℕ) : Prop where
  mem : V (Proc.devRef .tc main_v126_6) = s.main_v126_6
  out : V (Proc.devRef .tc main_v126_7) = s.main_v126_7
  k : V (Proc.devRef .tc main_v126_0) = s.main_v126_0
  v : V (Proc.devRef .tc main_v126_1) = s.main_v126_1
  q : V (Proc.devRef .tc main_v126_2) = s.main_v126_2
  b : V (Proc.devRef .tc main_v126_3) = s.main_v126_3
  a : V (Proc.devRef .tc main_v126_4) = s.main_v126_4
  trip : V (Proc.devRef .tc main_v126_5) = constantI S_ 32 (BitVec.ofNat 32 j)

section
variable {V : Valuation τ sig (Elt Ideal)} {s : State Ideal} {j : ℕ} (C : Carries V s j)
include C

set_option maxRecDepth 16384 in
theorem carried_key : res_main_while0b_v136 V = Step.b4 j s := by
  unfold res_main_while0b_v136
  rw [C.k, C.trip]
  rfl

set_option maxRecDepth 16384 in
theorem carried_memory : res_main_while0b_v159 V = b41 j s := by
  unfold res_main_while0b_v159
  rw [carried_key C, C.v, C.b, C.a, C.mem, C.trip]
  rfl

set_option maxRecDepth 16384 in
theorem carried_outs : step_main_v126_7 V = b47 j s := by
  unfold step_main_v126_7
  rw [carried_memory C, C.q, C.out, C.trip]
  rfl

/-- One trip of the program is one step of the state. -/
theorem carries_step : Carries (STEP V) (step j s) (j + 1) where
  mem := (STEP_main_v126_6 V).trans (carried_memory C)
  out := (STEP_main_v126_7 V).trans (carried_outs C)
  k := (STEP_main_v126_0 V).trans C.k
  v := (STEP_main_v126_1 V).trans C.v
  q := (STEP_main_v126_2 V).trans C.q
  b := (STEP_main_v126_3 V).trans C.b
  a := (STEP_main_v126_4 V).trans C.a
  trip := by
    refine (STEP_main_v126_5 V).trans ?_
    unfold step_main_v126_5
    rw [C.trip]
    funext i
    show BitVec.ofNat 32 j + 1#32 = BitVec.ofNat 32 (j + 1)
    rw [BitVec.ofNat_add]

end

variable (m : (ℓ : Loc nD τ sig) → Buf (Elt Ideal) ℓ) (c : Dev nD)

/-- The set-up values of the arguments. -/
def start : State Ideal :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg14)) (m ((c.tc : Thread nD τ).loc main_arg15)) (m ((c.tc : Thread nD τ).loc main_arg16))
    (m ((c.tc : Thread nD τ).loc main_arg17))

set_option maxRecDepth 65536 in
set_option maxHeartbeats 1000000 in
/-- The loop is entered with the set-up values. -/
theorem carries_start : Carries (entryContents preI m c) (start m c) 0 := by
  constructor <;> (simp only [entryContents, afterL_cons, afterL_nil]; after_reads_simp) <;> rfl

theorem carries_trips : ∀ j, Carries (STEP^[j] (entryContents preI m c)) (trips (start m c) j) j
  | 0 => carries_start m c
  | j + 1 => by
    rw [Function.iterate_succ_apply']
    exact carries_step (carries_trips j)

set_option maxRecDepth 16384 in
/-- The result the run leaves, of the state after the last trip. -/
theorem result_eq : out_main_v135 (STEP^[2048] (entryContents preI m c))
    = R_main_v135 (trips (start m c) 2048) (m ((c.tc : Thread nD τ).loc main_arg12)) (m ((c.tc : Thread nD τ).loc main_arg13)) := by
  unfold out_main_v135
  rw [(carries_trips m c 2048).out, iter_main_arg12 m c 2048, iter_main_arg13 m c 2048]
  rfl

end Cert.ReferenceIdeal.Loop

end
-- ==== Proof.KernelRun.lean ====
/-
  The kernel's run: what the host lines before the grid make of the arguments, and what the lines after it make of the
  grid's result.
-/
module

public import proofs.«01_k».proof.Proof.RefRun

@[expose] public section
set_option maxRecDepth 16384
noncomputable section

namespace Cert.KernelIdeal.Run

open Cert.KernelIdeal Cert.KernelIdeal.Gen Cert.KernelIdeal.Front Cert.KernelIdeal.Region
open Idealize.ShloMosaic Idealize.ShloMosaic.TcCoe Idealize.ShloMosaic.Tactic Idealize.SL.Sem Idealize.ShloMosaic.StableHlo
open DeltaRule

variable (m : (ℓ : Loc nD τ sig) → Buf (Elt Ideal) ℓ) (c : Dev nD)

/-- Argument arrays at the launch. -/
abbrev arg (r : Ref sig .tc) : Buf (Elt Ideal) ((c.tc : Thread nD τ).loc r) := m ((c.tc : Thread nD τ).loc r)

theorem x_eq : X m c = Cert.ReferenceIdeal.Front.xs (arg m c main_arg0) := by
  unfold X
  show after _ _ _ = _
  simp only [hostOps0, hostOps0_1, hostOps0_2, hostOps0_3, hostOps0_4, List.flatten_cons, List.flatten_nil, List.append_nil, List.cons_append, List.nil_append]
  after_results
  rfl

theorem w_eq : W m c = concatenate S200x256 0 [⟨S64x256, arg m c main_arg3⟩, ⟨S64x256, arg m c main_arg4⟩,
    ⟨S64x256, arg m c main_arg5⟩, ⟨S4x256, arg m c main_arg6⟩, ⟨S4x256, arg m c main_arg8⟩]
    concatenates_S64x256_S64x256_S64x256_S4x256_S4x256_S200x256_d0 := by
  unfold W
  show after _ _ _ = _
  simp only [hostOps0, hostOps0_1, hostOps0_2, hostOps0_3, hostOps0_4, List.flatten_cons, List.flatten_nil, List.append_nil, List.cons_append, List.nil_append]
  after_results
  rfl

/-! ## The weight rows -/

/-- The stacked weights by row. -/
theorem w_rows (s : Fin 200) (j : Fin 256) : W m c (ix2 s j)
    = if h : s.val < 64 then arg m c main_arg3 (ix2 ⟨s.val, h⟩ j)
      else if h : s.val - 64 < 64 then arg m c main_arg4 (ix2 ⟨s.val - 64, h⟩ j)
      else if h : s.val - 64 - 64 < 64 then arg m c main_arg5 (ix2 ⟨s.val - 64 - 64, h⟩ j)
      else if h : s.val - 64 - 64 - 64 < 4 then arg m c main_arg6 (ix2 ⟨s.val - 64 - 64 - 64, h⟩ j)
      else arg m c main_arg8 (ix2 ⟨s.val - 64 - 64 - 64 - 4, by omega⟩ j) := by
  rw [w_eq]
  generalize arg m c main_arg3 = a3
  generalize arg m c main_arg4 = a4
  generalize arg m c main_arg5 = a5
  generalize arg m c main_arg6 = a6
  generalize arg m c main_arg8 = a8
  pointwise

theorem w_q (h : Fin 4) (d : Fin 16) (j : Fin 256) : W m c (ix2 (qrow h d) j) = arg m c main_arg3 (ix2 (Cert.ReferenceIdeal.Front.row h d) j) := by
  have e : (qrow h d).val = 16 * h.val + d.val := rfl
  rw [w_rows, dif_pos (by omega)]
  rfl

theorem w_k (h : Fin 4) (d : Fin 16) (j : Fin 256) : W m c (ix2 (krow h d) j) = arg m c main_arg4 (ix2 (Cert.ReferenceIdeal.Front.row h d) j) := by
  have e : (krow h d).val = 64 + (16 * h.val + d.val) := rfl
  rw [w_rows, dif_neg (by omega), dif_pos (by omega)]
  exact congrArg (fun r => arg m c main_arg4 (ix2 r j)) (Fin.ext (by show _ - _ = 16 * h.val + d.val; omega))

theorem w_v (h : Fin 4) (d : Fin 16) (j : Fin 256) : W m c (ix2 (vrow h d) j) = arg m c main_arg5 (ix2 (Cert.ReferenceIdeal.Front.row h d) j) := by
  have e : (vrow h d).val = 128 + (16 * h.val + d.val) := rfl
  rw [w_rows, dif_neg (by omega), dif_neg (by omega), dif_pos (by omega)]
  exact congrArg (fun r => arg m c main_arg5 (ix2 r j)) (Fin.ext (by show _ - _ = 16 * h.val + d.val; omega))

theorem w_b (h : Fin 4) (j : Fin 256) : W m c (ix2 (srow 0 h) j) = arg m c main_arg6 (ix2 h j) := by
  have e : (srow 0 h).val = 192 + (4 * 0 + h.val) := rfl
  rw [w_rows, dif_neg (by omega), dif_neg (by omega), dif_neg (by omega), dif_pos (by omega)]
  exact congrArg (fun r => arg m c main_arg6 (ix2 r j)) (Fin.ext (by show _ - _ = h.val; omega))

theorem w_a (h : Fin 4) (j : Fin 256) : W m c (ix2 (srow 1 h) j) = arg m c main_arg8 (ix2 h j) := by
  have e : (srow 1 h).val = 192 + (4 * 1 + h.val) := rfl
  rw [w_rows, dif_neg (by omega), dif_neg (by omega), dif_neg (by omega), dif_neg (by omega)]
  exact congrArg (fun r => arg m c main_arg8 (ix2 r j)) (Fin.ext (by show _ - _ = h.val; omega))

/-! ## The gates' shifts -/

theorem shiftB_at (a1 : FVec Ideal S4 .f32) (a10 : FVec Ideal S4x1 .f32) (n : Fin 64) (h : Fin 4) (i h' : Fin 4) (hi : i.val = n.val / 16)
    (hh : h'.val = h.val) : min (Ideal.ofBits .f32 0x41200000#32) (FloatOps.absf (a1 (ix1 i))) * a10 (ix2 h' 0)
      = Cert.ReferenceIdeal.Front.shiftB a1 a10 n h := by
  obtain rfl : h' = h := Fin.ext hh
  have e : (⟨n.val / 16, by omega⟩ : Fin 4) = i := Fin.ext hi.symm
  unfold Cert.ReferenceIdeal.Front.shiftB
  rw [e]

theorem shiftA_at (a2 : FVec Ideal S4 .f32) (a11 : FVec Ideal S4x1 .f32) (n : Fin 64) (h : Fin 4) (i h' : Fin 4) (hi : i.val = n.val / 16)
    (hh : h'.val = h.val) : min (Ideal.ofBits .f32 0x40A00000#32) (max (Ideal.ofBits .f32 0x00000000#32) (a2 (ix1 i))) * a11 (ix2 h' 0)
      = Cert.ReferenceIdeal.Front.shiftA a2 a11 n h := by
  obtain rfl : h' = h := Fin.ext hh
  have e : (⟨n.val / 16, by omega⟩ : Fin 4) = i := Fin.ext hi.symm
  unfold Cert.ReferenceIdeal.Front.shiftA
  rw [e]

theorem md_b (i : Fin 4) (h : Fin 4) (n : Fin 16) (t : Fin 128) : MD m c (ix3 i (grow 0 h) (col n t))
    = Cert.ReferenceIdeal.Front.shiftB (arg m c main_arg1) (arg m c main_arg10) ⟨16 * i + n, by omega⟩ h := by
  unfold MD
  show (after (List.flatten [hostOps0, hostOps0_1, hostOps0_2, hostOps0_3, hostOps0_4]) (fun b => m (c, b)) (Proc.devRef .tc main_v27)
    : FVec Ideal S4x8x2048 .f32) _ = _
  simp only [hostOps0, hostOps0_1, hostOps0_2, hostOps0_3, hostOps0_4, List.flatten_cons, List.flatten_nil, List.append_nil, List.cons_append, List.nil_append]
  after_results
  pointwise
  have e : (grow 0 h).val = 4 * 0 + h.val := rfl
  refine (dif_pos (by omega)).trans ?_
  show min (Ideal.ofBits .f32 0x41200000#32) (FloatOps.absf ((arg m c main_arg1 : FVec Ideal S4 .f32) (ix1 ⟨(i.val * 16 + (col n t).val / 128) / 16, _⟩)))
    * (arg m c main_arg10 : FVec Ideal S4x1 .f32) (ix2 ⟨(grow 0 h).val, _⟩ 0) = _
  exact shiftB_at _ _ _ _ _ _ (by have : (col n t).val = 128 * n.val + t.val := rfl; show _ / 16 = (16 * i.val + n.val) / 16; omega)
    (by show (grow 0 h).val = h.val; omega)

theorem md_a (i : Fin 4) (h : Fin 4) (n : Fin 16) (t : Fin 128) : MD m c (ix3 i (grow 1 h) (col n t))
    = Cert.ReferenceIdeal.Front.shiftA (arg m c main_arg2) (arg m c main_arg11) ⟨16 * i + n, by omega⟩ h := by
  unfold MD
  show (after (List.flatten [hostOps0, hostOps0_1, hostOps0_2, hostOps0_3, hostOps0_4]) (fun b => m (c, b)) (Proc.devRef .tc main_v27)
    : FVec Ideal S4x8x2048 .f32) _ = _
  simp only [hostOps0, hostOps0_1, hostOps0_2, hostOps0_3, hostOps0_4, List.flatten_cons, List.flatten_nil, List.append_nil, List.cons_append, List.nil_append]
  after_results
  pointwise
  have e : (grow 1 h).val = 4 * 1 + h.val := rfl
  refine (dif_neg (by omega)).trans ?_
  show min (Ideal.ofBits .f32 0x40A00000#32) (max (Ideal.ofBits .f32 0x00000000#32) ((arg m c main_arg2 : FVec Ideal S4 .f32)
    (ix1 ⟨(i.val * 16 + (col n t).val / 128) / 16, _⟩))) * (arg m c main_arg11 : FVec Ideal S4x1 .f32) (ix2 ⟨(grow 1 h).val - 4, _⟩ 0) = _
  exact shiftA_at _ _ _ _ _ _ (by have : (col n t).val = 128 * n.val + t.val := rfl; show _ / 16 = (16 * i.val + n.val) / 16; omega)
    (by show (grow 1 h).val - 4 = h.val; omega)

/-! ## The lines after the grid -/

theorem tail_eq (S : Fin 64 → Fin 4 → Seq) (En : Entry S (X m c) (W m c) (MD m c)) :
    Pipeline.afterTail₀ cfgs (dats m) 0 (V0 m) [hostOps1] c main_v30
      = transpose S4x2048x16x192 [0, 3, 1, 2] (shapeCast S4x16x192x2048 (result S (OW m c)) shapeCasts_S64x192x2048_S4x16x192x2048)
        transposes_S4x16x192x2048_S4x2048x16x192_0_3_1_2 := by
  have hf := (Pipeline.withArrays_arr spec0 (by decide) c (V0 m c) (fun w => (dats m 0 c).arrAt w cfg0.N) 4).trans (final m c En)
  show after ([hostOps1].flatten) (Pipeline.withArrays spec0 c (V0 m c) fun w => (dats m 0 c).arrAt w cfg0.N) (Proc.devRef .tc main_v30) = _
  revert hf
  generalize Pipeline.withArrays spec0 c (V0 m c) (fun w => (dats m 0 c).arrAt w cfg0.N) = U
  intro hf
  simp only [hostOps1, List.flatten_cons, List.flatten_nil, List.append_nil]
  after_results
  rw [show U (Proc.devRef .tc main_v28) = result S (OW m c) from hf]
  rfl

theorem tail_apply (S : Fin 64 → Fin 4 → Seq) (En : Entry S (X m c) (W m c) (MD m c)) (p : Fin 4) (t : Fin 2048) (q : Fin 16) (o : Fin 192) :
    (Pipeline.afterTail₀ cfgs (dats m) 0 (V0 m) [hostOps1] c main_v30 : FVec Ideal S4x2048x16x192 .f32) (ix4 p t q o)
      = ∑ k : Fin 64, OW m c (ix2 o k)
        * ((S ⟨p.val * 16 + q.val, by omega⟩ ⟨k.val / 16, by omega⟩).out t ⟨k.val % 16, by omega⟩ : EReal) := by
  rw [tail_eq m c S En]
  generalize OW m c = ow
  pointwise
  rfl

/-- The run: the result is what the lines after the grid leave, and the arguments are as launched. -/
theorem run (ρ : Dev nD → PrngReg) : θ_run defs (onTc (τ := τ) (main (F := Ideal))) ⟨m, fun _ => 0, ρ⟩ (fun r => ∀ c : Dev nD,
    r.2.mem ((c.tc : Thread nD τ).loc main_v30) = Pipeline.afterTail₀ cfgs (dats m) 0 (V0 m) [hostOps1] c main_v30) :=
  (θ_run defs _ _).mono (fun _ h c => (h c).2 main_v30 (Pipeline.mem_restRefs_of main_v30 (by decide) (by decide))) (run_main m ρ)

end Cert.KernelIdeal.Run

end
-- ==== Proof.Recur.lean ====
/-
  The sixty-four times four recurrences the arguments give, and that both programs work on them: the kernel's operand arrays
  hold their data, and the reference's loop starts from their data.
-/
module

public import proofs.«01_k».proof.Proof.KernelRun

@[expose] public section
set_option maxRecDepth 16384
noncomputable section

namespace Cert.Recur

open Cert.ReferenceIdeal Cert.ReferenceIdeal.Gen Cert.ReferenceIdeal.Step Cert.ReferenceIdeal.Front Cert.ReferenceIdeal.Loop
open Idealize.ShloMosaic Idealize.ShloMosaic.TcCoe Idealize.ShloMosaic.Tactic
open DeltaRule

variable (a0 : FVec Ideal S4x2048x16x256 .f32) (a1 a2 : FVec Ideal S4 .f32) (a3 a4 a5 : FVec Ideal S64x256 .f32)
  (a6 : FVec Ideal S4x256 .f32) (a7 : FVec Ideal S4 .f32) (a8 : FVec Ideal S4x256 .f32) (a9 : FVec Ideal S4 .f32)
  (a10 a11 : FVec Ideal S4x1 .f32) (a13 : FVec Ideal S192 .f32) (a14 a15 a16 a17 : FVec Ideal S16 .f32)

/-- A step number, as an index of the 2048 steps. -/
def step' (t : ℕ) : Fin 2048 := ⟨t % 2048, by omega⟩

theorem step'_val (t : Fin 2048) : step' t.val = t := Fin.ext (Nat.mod_eq_of_lt t.isLt)

/-- The recurrence of sequence `n` and head `h`. -/
def seqs (n : Fin 64) (h : Fin 4) : Seq where
  k t := unR fun d => dot (xs a0) a4 (row h d) n (step' t)
  v t d := (dot (xs a0) a5 (row h d) n (step' t)).toReal
  q t := lnR fun d => dot (xs a0) a3 (row h d) n (step' t)
  a t := gateR (dot (xs a0) a8 h n (step' t) + a9 (ix1 h)) (shiftA a2 a11 n h)
  b t := gateR (dot (xs a0) a6 h n (step' t) + a7 (ix1 h)) (shiftB a1 a10 n h)

/-- What the precondition says of the arguments. -/
structure Given : Prop where
  v : ∀ n t r, ∃ s : ℝ, dot (xs a0) a5 r n t = s
  bb : ∀ h, a7 (ix1 h) = Cert.KernelIdeal.Front.bias 0
  ba : ∀ h, a9 (ix1 h) = Cert.KernelIdeal.Front.bias 1
  bo : ∀ o, a13 (ix1 o) = 0
  gq : ∀ d, a14 (ix1 d) = 1
  bq : ∀ d, a15 (ix1 d) = 0
  gk : ∀ d, a16 (ix1 d) = 1
  bk : ∀ d, a17 (ix1 d) = 0
  norm : ∀ n t h, Ideal.sqrt (sq fun d => dot (xs a0) a4 (row h d) n t) = 0
    ∨ (tiny : EReal) ≤ Ideal.sqrt (sq fun d => dot (xs a0) a4 (row h d) n t)

variable {a0 a5 a7 a9 a13 a14 a15 a16 a17 a4}

/-- The values are real numbers. -/
theorem value_real (G : Given a0 a4 a5 a7 a9 a13 a14 a15 a16 a17) (r : Fin 64) (n : Fin 64) (t : Fin 2048) :
    dot (xs a0) a5 r n t = ((dot (xs a0) a5 r n t).toReal : EReal) := by
  obtain ⟨s, e⟩ := G.v n t r
  rw [e, EReal.toReal_coe]

/-- The reference's loop starts from the recurrences' data and the zero state. -/
theorem start_inv (G : Given a0 a4 a5 a7 a9 a13 a14 a15 a16 a17) :
    Inv (seqs a0 a1 a2 a3 a4 a5 a6 a7 a8 a9 a10 a11) 0 (init a0 a1 a2 a3 a4 a5 a6 a7 a8 a9 a10 a11 a14 a15 a16 a17) where
  feeds := {
    k := fun t n h d => by
      refine Eq.trans ?_ ((un_apply a0 a1 a2 a3 a4 a5 a6 a7 a8 a9 a10 a11 a14 a15 a16 a17 G.gk G.bk n t h d (G.norm n t h)).trans ?_)
      · show A_main_v120 _ _ _ _ _ _ _ _ _ _ _ _ _ _ _ _ _ = _
        unfold A_main_v120
        pointwise
      · rw [unE_coe]
        show _ = ((unR (fun d => dot (xs a0) a4 (row h d) n (step' t.val)) d : ℝ) : EReal)
        rw [step'_val]
    v := fun t n h d => by
      refine Eq.trans ?_ ((v_apply a0 a1 a2 a3 a4 a5 a6 a7 a8 a9 a10 a11 a14 a15 a16 a17 n t h d).trans ?_)
      · show A_main_v121 _ _ _ _ _ _ _ _ _ _ _ _ _ _ _ _ _ = _
        unfold A_main_v121
        pointwise
      · rw [value_real G]
        show _ = (((dot (xs a0) a5 (row h d) n (step' t.val)).toReal : ℝ) : EReal)
        rw [step'_val]
    q := fun t n h d => by
      refine Eq.trans ?_ ((lnq_apply a0 a1 a2 a3 a4 a5 a6 a7 a8 a9 a10 a11 a14 a15 a16 a17 G.gq G.bq n t h d).trans ?_)
      · show A_main_v122 _ _ _ _ _ _ _ _ _ _ _ _ _ _ _ _ _ = _
        unfold A_main_v122
        pointwise
      · simp only [q_apply]
        rw [lnE_coe]
        show _ = ((lnR (fun d => dot (xs a0) a3 (row h d) n (step' t.val)) d : ℝ) : EReal)
        rw [step'_val]
    b := fun t n h => by
      refine Eq.trans ?_ ((beta_apply a0 a1 a2 a3 a4 a5 a6 a7 a8 a9 a10 a11 a14 a15 a16 a17 n t h).trans ?_)
      · show A_main_v123 _ _ _ _ _ _ _ _ _ _ _ _ _ _ _ _ _ = _
        unfold A_main_v123
        pointwise
      · show _ = ((gateR (dot (xs a0) a6 h n (step' t.val) + a7 (ix1 h)) (shiftB a1 a10 n h) : ℝ) : EReal)
        rw [step'_val]
    a := fun t n h => by
      refine Eq.trans ?_ ((alpha_apply a0 a1 a2 a3 a4 a5 a6 a7 a8 a9 a10 a11 a14 a15 a16 a17 n t h).trans ?_)
      · show A_main_v124 _ _ _ _ _ _ _ _ _ _ _ _ _ _ _ _ _ = _
        unfold A_main_v124
        pointwise
      · show _ = ((gateR (dot (xs a0) a8 h n (step' t.val) + a9 (ix1 h)) (shiftA a2 a11 n h) : ℝ) : EReal)
        rw [step'_val] }
  mem n h p r := by
    show K_main_v119 (F := Ideal) (ix4 n h p r) = ((0 : ℝ) : EReal)
    unfold K_main_v119 K_main_cst_21
    pointwise
    exact EReal.coe_zero.symm
  out t n h d ht := absurd ht (Nat.not_lt_zero _)

/-- The kernel's operand arrays hold the recurrences' data. -/
theorem entry (m : (ℓ : Loc Cert.KernelIdeal.nD Cert.KernelIdeal.τ Cert.KernelIdeal.sig) → Buf (Elt Ideal) ℓ) (c : Dev Cert.KernelIdeal.nD)
    (G : Given (Cert.KernelIdeal.Run.arg m c Cert.KernelIdeal.main_arg0) (Cert.KernelIdeal.Run.arg m c Cert.KernelIdeal.main_arg4)
      (Cert.KernelIdeal.Run.arg m c Cert.KernelIdeal.main_arg5) (Cert.KernelIdeal.Run.arg m c Cert.KernelIdeal.main_arg7)
      (Cert.KernelIdeal.Run.arg m c Cert.KernelIdeal.main_arg9) a13 a14 a15 a16 a17) :
    Cert.KernelIdeal.Region.Entry
      (seqs (Cert.KernelIdeal.Run.arg m c Cert.KernelIdeal.main_arg0) (Cert.KernelIdeal.Run.arg m c Cert.KernelIdeal.main_arg1)
        (Cert.KernelIdeal.Run.arg m c Cert.KernelIdeal.main_arg2) (Cert.KernelIdeal.Run.arg m c Cert.KernelIdeal.main_arg3)
        (Cert.KernelIdeal.Run.arg m c Cert.KernelIdeal.main_arg4) (Cert.KernelIdeal.Run.arg m c Cert.KernelIdeal.main_arg5)
        (Cert.KernelIdeal.Run.arg m c Cert.KernelIdeal.main_arg6) (Cert.KernelIdeal.Run.arg m c Cert.KernelIdeal.main_arg7)
        (Cert.KernelIdeal.Run.arg m c Cert.KernelIdeal.main_arg8) (Cert.KernelIdeal.Run.arg m c Cert.KernelIdeal.main_arg9)
        (Cert.KernelIdeal.Run.arg m c Cert.KernelIdeal.main_arg10) (Cert.KernelIdeal.Run.arg m c Cert.KernelIdeal.main_arg11))
      (Cert.KernelIdeal.Region.X m c) (Cert.KernelIdeal.Region.W m c) (Cert.KernelIdeal.Region.MD m c) := by
  have pr_eq : ∀ {R : ℕ} (w : FVec Ideal ⟨2, ![R, 256]⟩ .f32) (s : Fin 200) (r : Fin R),
      (∀ j, Cert.KernelIdeal.Region.W m c (ix2 s j) = w (ix2 r j)) → ∀ n t,
      Cert.KernelIdeal.Region.pr (Cert.KernelIdeal.Region.X m c) (Cert.KernelIdeal.Region.W m c) s n t
        = dot (xs (Cert.KernelIdeal.Run.arg m c Cert.KernelIdeal.main_arg0)) w r n t := fun w s r hw n t =>
    Finset.sum_congr rfl fun j _ => by rw [hw, Cert.KernelIdeal.Run.x_eq, mul_comm]
  constructor
  · intro n h d t
    simp only [fun d' => pr_eq _ _ _ (Cert.KernelIdeal.Run.w_k m c h d')]
    show unR (fun d => dot _ _ (row h d) n (step' t.val)) d = _
    rw [step'_val]
  · intro n h d t
    simp only [fun d' => pr_eq _ _ _ (Cert.KernelIdeal.Run.w_q m c h d')]
    show lnR (fun d => dot _ _ (row h d) n (step' t.val)) d = _
    rw [step'_val]
  · intro n h d t
    rw [pr_eq _ _ _ (Cert.KernelIdeal.Run.w_v m c h d), value_real G]
    show _ = ((dot _ _ (row h d) n (step' t.val)).toReal : EReal)
    rw [step'_val]
  · intro i n h t c'
    rw [pr_eq _ _ _ (Cert.KernelIdeal.Run.w_a m c h), Cert.KernelIdeal.Run.md_a, ← G.ba h]
    show gateR (dot _ _ h _ (step' t.val) + _) _ = _
    rw [step'_val]
  · intro i n h t c'
    rw [pr_eq _ _ _ (Cert.KernelIdeal.Run.w_b m c h), Cert.KernelIdeal.Run.md_b, ← G.bb h]
    show gateR (dot _ _ h _ (step' t.val) + _) _ = _
    rw [step'_val]

end Cert.Recur

end
-- ==== Proof.Assumed.lean ====
/-
  What the precondition's nine arrays of ones say of the argument arrays.
-/
module

public import proofs.«01_k».proof.Proof.Recur
public import proofs.«01_k».proof.Proof.Gen.Pre_assumed

@[expose] public section
set_option maxRecDepth 16384
noncomputable section

namespace Cert.Recur

open Cert.ReferenceIdeal.Front
open Cert.Pre_assumed Cert.Pre_assumed.Facts
open Idealize.ShloMosaic Idealize.ShloMosaic.TcCoe Idealize.ShloMosaic.Tactic
open DeltaRule

theorem of_bit {p : Prop} [Decidable p] (h : BitVec.ofBool (decide p) = 1#1) : p := by
  by_contra hp
  rw [decide_eq_false hp] at h
  exact absurd h (by decide)

theorem or_of_bit {p q : Prop} [Decidable p] [Decidable q]
    (h : IntOp.ori (BitVec.ofBool (decide p)) (BitVec.ofBool (decide q)) = 1#1) : p ∨ q := by
  by_cases hp : p
  · exact Or.inl hp
  · refine Or.inr (of_bit ?_)
    rw [decide_eq_false hp] at h
    revert h
    generalize BitVec.ofBool (decide q) = b
    revert b
    decide

/-- A number of absolute value below infinity is real. -/
theorem real_of_abs {x : EReal} (h : max x (-x) < Ideal.ofBits .f32 0x7F800000#32) : ∃ r : ℝ, x = r := by
  rw [ofBits_inf] at h
  induction x with
  | bot => exact absurd h (by simp)
  | top => exact absurd h (by simp)
  | coe r => exact ⟨r, rfl⟩

variable (a0 : FVec Ideal S4x2048x16x256 .f32) (a1 a2 : FVec Ideal S4 .f32) (a3 a4 a5 : FVec Ideal S64x256 .f32)
  (a6 : FVec Ideal S4x256 .f32) (a7 : FVec Ideal S4 .f32) (a8 : FVec Ideal S4x256 .f32) (a9 : FVec Ideal S4 .f32)
  (a10 a11 : FVec Ideal S4x1 .f32) (a12 : FVec Ideal S192x64 .f32) (a13 : FVec Ideal S192 .f32) (a14 a15 a16 a17 : FVec Ideal S16 .f32)

/-- An array that compares equal to a constant everywhere is that constant at every index. -/
theorem eq_at {n : ℕ} {a : FVec Ideal ⟨1, ![n]⟩ .f32} {hb : S_.BroadcastsInDim ⟨1, ![n]⟩ ![]} {w : BitVec 32}
    (h : cmpf .oeq a (broadcastInDim ⟨1, ![n]⟩ ![] hb (constant (F := Ideal) S_ .f32 w)) = fun _ => 1#1) (i : Fin n) :
    a (ix1 i) = Ideal.ofBits .f32 w :=
  of_bit (congrFun h (ix1 i))

/-- Each of the nine arrays is all ones. -/
def Ones : Prop :=
  ∀ r, r = fn (F := Ideal) a0 a1 a2 a3 a4 a5 a6 a7 a8 a9 a10 a11 a12 a13 a14 a15 a16 a17 →
    r.1 = (fun _ => 1#1) ∧ r.2.1 = (fun _ => 1#1) ∧ r.2.2.1 = (fun _ => 1#1) ∧ r.2.2.2.1 = (fun _ => 1#1)
    ∧ r.2.2.2.2.1 = (fun _ => 1#1) ∧ r.2.2.2.2.2.1 = (fun _ => 1#1) ∧ r.2.2.2.2.2.2.1 = (fun _ => 1#1)
    ∧ r.2.2.2.2.2.2.2.1 = (fun _ => 1#1) ∧ r.2.2.2.2.2.2.2.2 = (fun _ => 1#1)

theorem given (H : Ones a0 a1 a2 a3 a4 a5 a6 a7 a8 a9 a10 a11 a12 a13 a14 a15 a16 a17) : Given a0 a4 a5 a7 a9 a13 a14 a15 a16 a17 := by
  obtain ⟨h0, h1, h2, h3, h4, h5, h6, h7, h8⟩ := H _ rfl
  unfold fn fn_part1 fn_part2 at h0 h1 h2 h3 h4 h5 h6 h7 h8
  dsimp only at h0 h1 h2 h3 h4 h5 h6 h7 h8
  have one : Ideal.ofBits .f32 0x3F800000#32 = 1 := Ideal.ofBits_one_f32
  have zero : Ideal.ofBits .f32 0x00000000#32 = 0 := Ideal.ofBits_zero_f32
  refine ⟨?_, eq_at h1, eq_at h2, fun i => (eq_at h3 i).trans zero, fun i => (eq_at h4 i).trans one, fun i => (eq_at h5 i).trans zero,
    fun i => (eq_at h6 i).trans one, fun i => (eq_at h7 i).trans zero, ?_⟩
  · intro n t r
    have h := congrFun h0 (ix3 n t r)
    clear h0 h1 h2 h3 h4 h5 h6 h7 h8
    revert h
    rw [← xs]
    generalize xs a0 = x
    pointwise
    exact fun h => real_of_abs (of_bit h)
  · intro n t i
    have h := congrFun h8 (ix3 n t i)
    clear h0 h1 h2 h3 h4 h5 h6 h7 h8
    revert h
    rw [← xs]
    generalize xs a0 = x
    pointwise
    intro h
    have h' := or_of_bit h
    have e : ∀ d : Fin 16, (⟨i.val * 16 + d.val, by omega⟩ : Fin 64) = row i d := fun d => Fin.ext (by show i.val * 16 + d.val = 16 * i.val + d.val; omega)
    rw [ofBits_tiny, ofBits_sixteen] at h'
    simp only [div_sixteen, e] at h'
    exact h'

end Cert.Recur

end
-- ==== Proof.Agree.lean ====
/-
  The two programs' results agree: under the precondition both are the outputs of the same recurrences against the output
  weights.
-/
module

public import proofs.«01_k».proof.Defs
public import proofs.«01_k».proof.Proof.Assumed
public import Idealize.ShloMosaic.Lib.Quiescent

@[expose] public section
set_option maxRecDepth 16384
noncomputable section

namespace Cert.Agree

open Cert.ReferenceIdeal.Front Cert.ReferenceIdeal.Loop Cert.Recur
open Idealize.ShloMosaic Idealize.ShloMosaic.TcCoe Idealize.ShloMosaic.Tactic Idealize.SL.Sem
open DeltaRule

/-- Two arrays over batch, step, sequence and output feature are equal when they are at every such index. -/
theorem ext4 {u v : FVec Ideal ⟨4, ![4, 2048, 16, 192]⟩ .f32} (h : ∀ p t q o, u (ix4 p t q o) = v (ix4 p t q o)) : u = v := by
  funext i
  have e : i = ix4 (i 0) (i 1) (i 2) (i 3) := by
    funext a
    match a with
    | ⟨0, _⟩ => rfl
    | ⟨1, _⟩ => rfl
    | ⟨2, _⟩ => rfl
    | ⟨3, _⟩ => rfl
  rw [e]
  exact h _ _ _ _

open Cert.KernelIdeal (main_arg0 main_arg1 main_arg2 main_arg3 main_arg4 main_arg5 main_arg6 main_arg7 main_arg8 main_arg9 main_arg10 main_arg11
  main_arg12 main_arg13 main_arg14 main_arg15 main_arg16 main_arg17)
open Cert.KernelIdeal.Run (arg)

section
variable (m : (ℓ : Loc Cert.KernelIdeal.nD Cert.KernelIdeal.τ Cert.KernelIdeal.sig) → Buf (Elt Ideal) ℓ)
  (c : Dev Cert.KernelIdeal.nD) (S : Fin 64 → Fin 4 → Seq)

/-- The kernel's recurrences. -/
abbrev data : Fin 64 → Fin 4 → Seq :=
  seqs (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11)

/-- The precondition's claims of the kernel's arguments. -/
theorem given_of (H : Cert.Pre_KernelIdeal_assumed m) : Given (arg m c main_arg0) (arg m c main_arg4) (arg m c main_arg5) (arg m c main_arg7) (arg m c main_arg9) (arg m c main_arg13) (arg m c main_arg14) (arg m c main_arg15) (arg m c main_arg16) (arg m c main_arg17) :=
  given (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17)
    fun r hr => by rw [hr]; exact H c

/-- The kernel's result. -/
def kernelOut : FVec Ideal ⟨4, ![4, 2048, 16, 192]⟩ .f32 :=
  Pipeline.afterTail₀ Cert.KernelIdeal.cfgs (Cert.KernelIdeal.Gen.dats m) 0 (Cert.KernelIdeal.Gen.V0 m) [Cert.KernelIdeal.Gen.hostOps1] c
    Cert.KernelIdeal.main_v30

/-- The output weights. -/
def weights : FVec Ideal ⟨2, ![192, 64]⟩ .f32 := arg m c main_arg12

/-- The kernel's result at an index. -/
theorem kernel_apply (H : Cert.Pre_KernelIdeal_assumed m) (p : Fin 4) (t : Fin 2048) (q : Fin 16) (o : Fin 192) :
    kernelOut m c (ix4 p t q o) = ∑ k : Fin 64,
      ((data m c ⟨p.val * 16 + q.val, by omega⟩ ⟨k.val / 16, by omega⟩).out t ⟨k.val % 16, by omega⟩ : EReal) * weights m c (ix2 o k) := by
  have hw : Cert.KernelIdeal.Region.OW m c = weights m c := Cert.KernelIdeal.Gen.V_main_arg12 m c
  have e : kernelOut m c (ix4 p t q o) = ∑ k : Fin 64, Cert.KernelIdeal.Region.OW m c (ix2 o k)
      * ((data m c ⟨p.val * 16 + q.val, by omega⟩ ⟨k.val / 16, by omega⟩).out t ⟨k.val % 16, by omega⟩ : EReal) :=
    Cert.KernelIdeal.Run.tail_apply m c (data m c) (entry m c (given_of m c H)) p t q o
  rw [e, hw]
  exact Finset.sum_congr rfl fun k _ => mul_comm _ _

variable (m' : (ℓ : Loc Cert.ReferenceIdeal.nD Cert.ReferenceIdeal.τ Cert.ReferenceIdeal.sig) → Buf (Elt Ideal) ℓ)

/-- The reference starts from the same arguments. -/
def SameArgs : Prop :=
  m' ((c.tc : Thread Cert.ReferenceIdeal.nD Cert.ReferenceIdeal.τ).loc Cert.ReferenceIdeal.main_arg0) = Cert.KernelIdeal.Run.arg m c Cert.KernelIdeal.main_arg0
      ∧ m' ((c.tc : Thread Cert.ReferenceIdeal.nD Cert.ReferenceIdeal.τ).loc Cert.ReferenceIdeal.main_arg1) = Cert.KernelIdeal.Run.arg m c Cert.KernelIdeal.main_arg1
      ∧ m' ((c.tc : Thread Cert.ReferenceIdeal.nD Cert.ReferenceIdeal.τ).loc Cert.ReferenceIdeal.main_arg2) = Cert.KernelIdeal.Run.arg m c Cert.KernelIdeal.main_arg2
      ∧ m' ((c.tc : Thread Cert.ReferenceIdeal.nD Cert.ReferenceIdeal.τ).loc Cert.ReferenceIdeal.main_arg3) = Cert.KernelIdeal.Run.arg m c Cert.KernelIdeal.main_arg3
      ∧ m' ((c.tc : Thread Cert.ReferenceIdeal.nD Cert.ReferenceIdeal.τ).loc Cert.ReferenceIdeal.main_arg4) = Cert.KernelIdeal.Run.arg m c Cert.KernelIdeal.main_arg4
      ∧ m' ((c.tc : Thread Cert.ReferenceIdeal.nD Cert.ReferenceIdeal.τ).loc Cert.ReferenceIdeal.main_arg5) = Cert.KernelIdeal.Run.arg m c Cert.KernelIdeal.main_arg5
      ∧ m' ((c.tc : Thread Cert.ReferenceIdeal.nD Cert.ReferenceIdeal.τ).loc Cert.ReferenceIdeal.main_arg6) = Cert.KernelIdeal.Run.arg m c Cert.KernelIdeal.main_arg6
      ∧ m' ((c.tc : Thread Cert.ReferenceIdeal.nD Cert.ReferenceIdeal.τ).loc Cert.ReferenceIdeal.main_arg7) = Cert.KernelIdeal.Run.arg m c Cert.KernelIdeal.main_arg7
      ∧ m' ((c.tc : Thread Cert.ReferenceIdeal.nD Cert.ReferenceIdeal.τ).loc Cert.ReferenceIdeal.main_arg8) = Cert.KernelIdeal.Run.arg m c Cert.KernelIdeal.main_arg8
      ∧ m' ((c.tc : Thread Cert.ReferenceIdeal.nD Cert.ReferenceIdeal.τ).loc Cert.ReferenceIdeal.main_arg9) = Cert.KernelIdeal.Run.arg m c Cert.KernelIdeal.main_arg9
      ∧ m' ((c.tc : Thread Cert.ReferenceIdeal.nD Cert.ReferenceIdeal.τ).loc Cert.ReferenceIdeal.main_arg10) = Cert.KernelIdeal.Run.arg m c Cert.KernelIdeal.main_arg10
      ∧ m' ((c.tc : Thread Cert.ReferenceIdeal.nD Cert.ReferenceIdeal.τ).loc Cert.ReferenceIdeal.main_arg11) = Cert.KernelIdeal.Run.arg m c Cert.KernelIdeal.main_arg11
      ∧ m' ((c.tc : Thread Cert.ReferenceIdeal.nD Cert.ReferenceIdeal.τ).loc Cert.ReferenceIdeal.main_arg12) = Cert.KernelIdeal.Run.arg m c Cert.KernelIdeal.main_arg12
      ∧ m' ((c.tc : Thread Cert.ReferenceIdeal.nD Cert.ReferenceIdeal.τ).loc Cert.ReferenceIdeal.main_arg13) = Cert.KernelIdeal.Run.arg m c Cert.KernelIdeal.main_arg13
      ∧ m' ((c.tc : Thread Cert.ReferenceIdeal.nD Cert.ReferenceIdeal.τ).loc Cert.ReferenceIdeal.main_arg14) = Cert.KernelIdeal.Run.arg m c Cert.KernelIdeal.main_arg14
      ∧ m' ((c.tc : Thread Cert.ReferenceIdeal.nD Cert.ReferenceIdeal.τ).loc Cert.ReferenceIdeal.main_arg15) = Cert.KernelIdeal.Run.arg m c Cert.KernelIdeal.main_arg15
      ∧ m' ((c.tc : Thread Cert.ReferenceIdeal.nD Cert.ReferenceIdeal.τ).loc Cert.ReferenceIdeal.main_arg16) = Cert.KernelIdeal.Run.arg m c Cert.KernelIdeal.main_arg16
      ∧ m' ((c.tc : Thread Cert.ReferenceIdeal.nD Cert.ReferenceIdeal.τ).loc Cert.ReferenceIdeal.main_arg17) = Cert.KernelIdeal.Run.arg m c Cert.KernelIdeal.main_arg17

/-- The results agree. -/
theorem results (H : Cert.Pre_KernelIdeal_assumed m) (E : SameArgs m c m') :
    Cert.ReferenceIdeal.Value.out_main_v135 (Cert.ReferenceIdeal.Value.STEP^[2048] (StableHlo.entryContents Cert.ReferenceIdeal.Value.preI m' c))
      = kernelOut m c := by
  obtain ⟨e0, e1, e2, e3, e4, e5, e6, e7, e8, e9, e10, e11, e12, e13, e14, e15, e16, e17⟩ := E
  have G := given_of m c H
  rw [result_eq]
  have hs : start m' c = Cert.ReferenceIdeal.Step.init (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) := by
    unfold start
    rw [e0, e1, e2, e3, e4, e5, e6, e7, e8, e9, e10, e11, e14, e15, e16, e17]
  rw [hs, e12, e13]
  refine ext4 fun p t q o => ?_
  refine (result_apply (trips_inv (start_inv _ _ _ _ _ _ _ G) 2048 le_rfl) _ _ p t q o).trans ?_
  refine (congrArg (_ + ·) (G.bo o)).trans ?_
  rw [add_zero]
  exact (kernel_apply m c H p t q o).symm

end

end Cert.Agree

end
-- ==== Proof.lean ====
/-
  The certificate of the chunked delta-rule kernel: its frame, its idealization's and the reference's; and that under the
  precondition the kernel's result over the extended reals is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_assumed
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's frame. -/
theorem reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Everything claimed. -/
theorem claim : Cert.Claim := ⟨Cert.Kernel.Gen.facts, Cert.KernelIdeal.Gen.facts, Cert.ReferenceIdeal.Gen.facts, Cert.Pre_assumed.Gen.facts,
  fun m ρ _ => Cert.Kernel.Gen.frame m ρ, fun m ρ _ => Cert.KernelIdeal.Gen.frame m ρ, fun m ρ _ => Cert.KernelIdeal.Gen.frame m ρ,
  reference, fun m ρ _ => reference m ρ trivial, trivial,
  fun m ρ m' ρ' H E => ⟨fun c => Cert.Agree.kernelOut m c,
    (θ_run Cert.KernelIdeal.defs _ _).mono (fun _ h c => ⟨h.1 c, h.2 c⟩)
      (θ_run_and (Cert.KernelIdeal.Run.run m ρ) (Cert.KernelIdeal.Gen.unchanged m ρ)),
    (θ_run Cert.ReferenceIdeal.defs _ _).mono (fun _ h c => ⟨(h c).1.trans (Cert.Agree.results m c m' H (E c)), (h c).2⟩)
      (Cert.ReferenceIdeal.Value.run (F := Ideal) m' ρ')⟩⟩

end Cert.Proof

end
